-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S_ : Shape := ⟨0, ![]⟩
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x256 : Shape := ⟨2, ![1, 256]⟩
abbrev S1 : Shape := ⟨1, ![1]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x256 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x256 .f32 := Host.absf main_arg13
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S1x256 .f32) (main_arg10 : FVec F S1 .f32) (main_arg11 : FVec F S128x128 .f32) (main_arg12 : FVec F S128 .f32) (main_arg13 : FVec F S1x256 .f32) (main_arg14 : FVec F S1 .f32) (main_v33 : IVec S_ 1) : IVec S_ 1 :=
  let main_v34 : FVec F S1x256 .f32 := Host.absf main_arg9
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S1 .f32) (main_arg7 : FVec F S128x128 .f32) (main_arg8 : FVec F S128 .f32) (main_arg9 : FVec F S1x256 .f32) (main_arg10 : FVec F S1 .f32) (main_arg11 : FVec F S128x128 .f32) (main_arg12 : FVec F S128 .f32) (main_arg13 : FVec F S1x256 .f32) (main_arg14 : FVec F S1 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : IVec S_ 32) (main_arg1 : FVec F S10000x128 .f32) (main_arg2 : IVec S2x320000 32) (main_arg3 : FVec F S128x128 .f32) (main_arg4 : FVec F S128 .f32) (main_arg5 : FVec F S1x256 .f32) (main_arg6 : FVec F S1 .f32) (main_arg7 : FVec F S128x128 .f32) (main_arg8 : FVec F S128 .f32) (main_arg9 : FVec F S1x256 .f32) (main_arg10 : FVec F S1 .f32) (main_arg11 : FVec F S128x128 .f32) (main_arg12 : FVec F S128 .f32) (main_arg13 : FVec F S1x256 .f32) (main_arg14 : FVec F S1 .f32) : IVec S_ 1 :=
  let main_v0 : FVec F S10000x128 .f32 := Host.absf main_arg1
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x256 .f32 := Host.absf main_arg5
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg6 main_arg7 main_arg8 main_arg9 main_arg10 main_arg11 main_arg12 main_arg13 main_arg14 main_v13 main_v16
-- ==== Kernel.lean ====
abbrev S_ : Shape := ⟨0, ![]⟩
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x256 : Shape := ⟨2, ![1, 256]⟩
abbrev S1 : Shape := ⟨1, ![1]⟩
abbrev S1x320000 : Shape := ⟨2, ![1, 320000]⟩
abbrev S320000 : Shape := ⟨1, ![320000]⟩
abbrev S1x128 : Shape := ⟨2, ![1, 128]⟩
abbrev S128x1 : Shape := ⟨2, ![128, 1]⟩
abbrev S128x2 : Shape := ⟨2, ![128, 2]⟩
abbrev S1x1 : Shape := ⟨2, ![1, 1]⟩
abbrev S1x2 : Shape := ⟨2, ![1, 2]⟩
abbrev S10000x144 : Shape := ⟨2, ![10000, 144]⟩
abbrev S10000x1 : Shape := ⟨2, ![10000, 1]⟩
abbrev S400x128 : Shape := ⟨2, ![400, 128]⟩
abbrev S400x144 : Shape := ⟨2, ![400, 144]⟩
abbrev S400x1 : Shape := ⟨2, ![400, 1]⟩
abbrev S400x2 : Shape := ⟨2, ![400, 2]⟩
abbrev S400x16 : Shape := ⟨2, ![400, 16]⟩
abbrev S10000 : Shape := ⟨1, ![10000]⟩
abbrev S320000x1 : Shape := ⟨2, ![320000, 1]⟩
abbrev S320000x144 : Shape := ⟨2, ![320000, 144]⟩
abbrev S1x10000x144 : Shape := ⟨3, ![1, 10000, 144]⟩
abbrev S2x10000x144 : Shape := ⟨3, ![2, 10000, 144]⟩
abbrev S2x400x144 : Shape := ⟨3, ![2, 400, 144]⟩
abbrev S1x400x128 : Shape := ⟨3, ![1, 400, 128]⟩
abbrev S1x400x1 : Shape := ⟨3, ![1, 400, 1]⟩

abbrev nBuf : Space → Nat
  | .hbm => 212
  | .vmem => 40
  | .smem => 0
  | _ => 0

abbrev hbmTy0_0 (i : Nat) : BufTy := match i % 128 with
  | 0 => ⟨S_, .i32⟩
  | 1 => ⟨S10000x128, .f32⟩
  | 2 => ⟨S2x320000, .i32⟩
  | 3 => ⟨S128x128, .f32⟩
  | 4 => ⟨S128, .f32⟩
  | 5 => ⟨S1x256, .f32⟩
  | 6 => ⟨S1, .f32⟩
  | 7 => ⟨S128x128, .f32⟩
  | 8 => ⟨S128, .f32⟩
  | 9 => ⟨S1x256, .f32⟩
  | 10 => ⟨S1, .f32⟩
  | 11 => ⟨S128x128, .f32⟩
  | 12 => ⟨S128, .f32⟩
  | 13 => ⟨S1x256, .f32⟩
  | 14 => ⟨S1, .f32⟩
  | 15 => ⟨S1x320000, .i32⟩
  | 16 => ⟨S320000, .i32⟩
  | 17 => ⟨S1x320000, .i32⟩
  | 18 => ⟨S320000, .i32⟩
  | 19 => ⟨S128x128, .f32⟩
  | 20 => ⟨S1x128, .f32⟩
  | 21 => ⟨S128, .f32⟩
  | 22 => ⟨S1x128, .f32⟩
  | 23 => ⟨S128, .f32⟩
  | 24 => ⟨S128x1, .f32⟩
  | 25 => ⟨S128x1, .f32⟩
  | 26 => ⟨S128x2, .f32⟩
  | 27 => ⟨S_, .f32⟩
  | 28 => ⟨S1, .f32⟩
  | 29 => ⟨S1x1, .f32⟩
  | 30 => ⟨S1x1, .f32⟩
  | 31 => ⟨S1x2, .f32⟩
  | 32 => ⟨S1x128, .f32⟩
  | 33 => ⟨S10000x144, .f32⟩
  | 34 => ⟨S10000x1, .f32⟩
  | 35 => ⟨S10000x1, .f32⟩
  | 36 => ⟨S10000, .f32⟩
  | 37 => ⟨S10000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000, .f32⟩
  | 56 => ⟨S320000, .f32⟩
  | 57 => ⟨S_, .f32⟩
  | 58 => ⟨S320000, .f32⟩
  | 59 => ⟨S320000, .f32⟩
  | 60 => ⟨S320000, .f32⟩
  | 61 => ⟨S320000, .f32⟩
  | 62 => ⟨S320000x1, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x144, .f32⟩
  | 72 => ⟨S320000x144, .f32⟩
  | 73 => ⟨S320000x144, .f32⟩
  | 74 => ⟨S_, .f32⟩
  | 75 => ⟨S10000x144, .f32⟩
  | 76 => ⟨S320000x1, .i32⟩
  | 77 => ⟨S10000x144, .f32⟩
  | 78 => ⟨S_, .f32⟩
  | 79 => ⟨S10000x144, .f32⟩
  | 80 => ⟨S1x10000x144, .f32⟩
  | 81 => ⟨S1x10000x144, .f32⟩
  | 82 => ⟨S2x10000x144, .f32⟩
  | 83 => ⟨S128x128, .f32⟩
  | 84 => ⟨S1x128, .f32⟩
  | 85 => ⟨S128, .f32⟩
  | 86 => ⟨S1x128, .f32⟩
  | 87 => ⟨S128, .f32⟩
  | 88 => ⟨S128x1, .f32⟩
  | 89 => ⟨S128x1, .f32⟩
  | 90 => ⟨S128x2, .f32⟩
  | 91 => ⟨S_, .f32⟩
  | 92 => ⟨S1, .f32⟩
  | 93 => ⟨S1x1, .f32⟩
  | 94 => ⟨S1x1, .f32⟩
  | 95 => ⟨S1x2, .f32⟩
  | 96 => ⟨S1x128, .f32⟩
  | 97 => ⟨S10000x144, .f32⟩
  | 98 => ⟨S10000x1, .f32⟩
  | 99 => ⟨S10000x1, .f32⟩
  | 100 => ⟨S10000, .f32⟩
  | 101 => ⟨S10000, .f32⟩
  | 102 => ⟨S_, .i32⟩
  | 103 => ⟨S320000, .i32⟩
  | 104 => ⟨S320000, .i1⟩
  | 105 => ⟨S_, .i32⟩
  | 106 => ⟨S320000, .i32⟩
  | 107 => ⟨S320000, .i32⟩
  | 108 => ⟨S320000, .i32⟩
  | 109 => ⟨S320000x1, .i32⟩
  | 110 => ⟨S320000, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000, .f32⟩
  | 120 => ⟨S320000, .f32⟩
  | 121 => ⟨S_, .f32⟩
  | 122 => ⟨S320000, .f32⟩
  | 123 => ⟨S320000, .f32⟩
  | 124 => ⟨S320000, .f32⟩
  | 125 => ⟨S320000, .f32⟩
  | 126 => ⟨S320000x1, .f32⟩
  | 127 => ⟨S_, .i32⟩
  | _ => ⟨S_, .i32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x144, .f32⟩
  | 8 => ⟨S320000x144, .f32⟩
  | 9 => ⟨S320000x144, .f32⟩
  | 10 => ⟨S_, .f32⟩
  | 11 => ⟨S10000x144, .f32⟩
  | 12 => ⟨S320000x1, .i32⟩
  | 13 => ⟨S10000x144, .f32⟩
  | 14 => ⟨S_, .f32⟩
  | 15 => ⟨S10000x144, .f32⟩
  | 16 => ⟨S1x10000x144, .f32⟩
  | 17 => ⟨S1x10000x144, .f32⟩
  | 18 => ⟨S2x10000x144, .f32⟩
  | 19 => ⟨S128x128, .f32⟩
  | 20 => ⟨S1x128, .f32⟩
  | 21 => ⟨S128, .f32⟩
  | 22 => ⟨S1x128, .f32⟩
  | 23 => ⟨S128, .f32⟩
  | 24 => ⟨S128x1, .f32⟩
  | 25 => ⟨S128x1, .f32⟩
  | 26 => ⟨S128x2, .f32⟩
  | 27 => ⟨S_, .f32⟩
  | 28 => ⟨S1, .f32⟩
  | 29 => ⟨S1x1, .f32⟩
  | 30 => ⟨S1x1, .f32⟩
  | 31 => ⟨S1x2, .f32⟩
  | 32 => ⟨S1x128, .f32⟩
  | 33 => ⟨S10000x144, .f32⟩
  | 34 => ⟨S10000x1, .f32⟩
  | 35 => ⟨S10000x1, .f32⟩
  | 36 => ⟨S10000, .f32⟩
  | 37 => ⟨S10000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000, .f32⟩
  | 56 => ⟨S320000, .f32⟩
  | 57 => ⟨S_, .f32⟩
  | 58 => ⟨S320000, .f32⟩
  | 59 => ⟨S320000, .f32⟩
  | 60 => ⟨S320000, .f32⟩
  | 61 => ⟨S320000, .f32⟩
  | 62 => ⟨S320000x1, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x144, .f32⟩
  | 72 => ⟨S320000x144, .f32⟩
  | 73 => ⟨S320000x144, .f32⟩
  | 74 => ⟨S_, .f32⟩
  | 75 => ⟨S10000x144, .f32⟩
  | 76 => ⟨S320000x1, .i32⟩
  | 77 => ⟨S10000x144, .f32⟩
  | 78 => ⟨S_, .f32⟩
  | 79 => ⟨S10000x144, .f32⟩
  | 80 => ⟨S1x10000x144, .f32⟩
  | 81 => ⟨S1x10000x144, .f32⟩
  | 82 => ⟨S2x10000x144, .f32⟩
  | 83 => ⟨S10000x128, .f32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S1x128, .f32⟩
  | .local _ .vmem, ⟨4, _⟩ => ⟨S128x2, .f32⟩
  | .local _ .vmem, ⟨5, _⟩ => ⟨S1x2, .f32⟩
  | .local _ .vmem, ⟨6, _⟩ => ⟨S400x144, .f32⟩
  | .local _ .vmem, ⟨7, _⟩ => ⟨S400x144, .f32⟩
  | .local _ .vmem, ⟨8, _⟩ => ⟨S400x1, .f32⟩
  | .local _ .vmem, ⟨9, _⟩ => ⟨S400x1, .f32⟩
  | .local _ .vmem, ⟨10, _⟩ => ⟨S400x1, .f32⟩
  | .local _ .vmem, ⟨11, _⟩ => ⟨S400x1, .f32⟩
  | .local _ .vmem, ⟨12, _⟩ => ⟨S2x400x144, .f32⟩
  | .local _ .vmem, ⟨13, _⟩ => ⟨S2x400x144, .f32⟩
  | .local _ .vmem, ⟨14, _⟩ => ⟨S128x128, .f32⟩
  | .local _ .vmem, ⟨15, _⟩ => ⟨S1x128, .f32⟩
  | .local _ .vmem, ⟨16, _⟩ => ⟨S128x2, .f32⟩
  | .local _ .vmem, ⟨17, _⟩ => ⟨S1x2, .f32⟩
  | .local _ .vmem, ⟨18, _⟩ => ⟨S400x144, .f32⟩
  | .local _ .vmem, ⟨19, _⟩ => ⟨S400x144, .f32⟩
  | .local _ .vmem, ⟨20, _⟩ => ⟨S400x1, .f32⟩
  | .local _ .vmem, ⟨21, _⟩ => ⟨S400x1, .f32⟩
  | .local _ .vmem, ⟨22, _⟩ => ⟨S400x1, .f32⟩
  | .local _ .vmem, ⟨23, _⟩ => ⟨S400x1, .f32⟩
  | .local _ .vmem, ⟨24, _⟩ => ⟨S2x400x144, .f32⟩
  | .local _ .vmem, ⟨25, _⟩ => ⟨S2x400x144, .f32⟩
  | .local _ .vmem, ⟨26, _⟩ => ⟨S128x128, .f32⟩
  | .local _ .vmem, ⟨27, _⟩ => ⟨S1x128, .f32⟩
  | .local _ .vmem, ⟨28, _⟩ => ⟨S128x2, .f32⟩
  | .local _ .vmem, ⟨29, _⟩ => ⟨S1x2, .f32⟩
  | .local _ .vmem, ⟨30, _⟩ => ⟨S400x144, .f32⟩
  | .local _ .vmem, ⟨31, _⟩ => ⟨S400x144, .f32⟩
  | .local _ .vmem, ⟨32, _⟩ => ⟨S400x1, .f32⟩
  | .local _ .vmem, ⟨33, _⟩ => ⟨S400x1, .f32⟩
  | .local _ .vmem, ⟨34, _⟩ => ⟨S400x1, .f32⟩
  | .local _ .vmem, ⟨35, _⟩ => ⟨S400x1, .f32⟩
  | .local _ .vmem, ⟨36, _⟩ => ⟨S2x400x144, .f32⟩
  | .local _ .vmem, ⟨37, _⟩ => ⟨S2x400x144, .f32⟩
  | .local _ .vmem, ⟨38, _⟩ => ⟨S400x128, .f32⟩
  | .local _ .vmem, ⟨39, _⟩ => ⟨S400x128, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_1 : Ref sig .tc := ⟨.hbm, 47, rfl⟩
abbrev main_v27 : Ref sig .tc := ⟨.hbm, 48, rfl⟩
abbrev main_v28 : Ref sig .tc := ⟨.hbm, 49, rfl⟩
abbrev main_c_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_4 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_8 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69_0 : Ref sig .tc := ⟨.hbm, 97, rfl⟩
abbrev main_v69_1 : Ref sig .tc := ⟨.hbm, 98, rfl⟩
abbrev main_v69_2 : Ref sig .tc := ⟨.hbm, 99, rfl⟩
abbrev main_v70 : Ref sig .tc := ⟨.hbm, 100, rfl⟩
abbrev main_v71 : Ref sig .tc := ⟨.hbm, 101, rfl⟩
abbrev main_c_9 : Ref sig .tc := ⟨.hbm, 102, rfl⟩
abbrev main_v72 : Ref sig .tc := ⟨.hbm, 103, rfl⟩
abbrev main_v73 : Ref sig .tc := ⟨.hbm, 104, rfl⟩
abbrev main_c_10 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_11 : Ref sig .tc := ⟨.hbm, 111, rfl⟩
abbrev main_v79 : Ref sig .tc := ⟨.hbm, 112, rfl⟩
abbrev main_v80 : Ref sig .tc := ⟨.hbm, 113, rfl⟩
abbrev main_c_12 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_13 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_14 : Ref sig .tc := ⟨.hbm, 127, rfl⟩
abbrev main_v92 : Ref sig .tc := ⟨.hbm, 128, rfl⟩
abbrev main_v93 : Ref sig .tc := ⟨.hbm, 129, rfl⟩
abbrev main_c_15 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_16 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_17 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_18 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121_0 : Ref sig .tc := ⟨.hbm, 161, rfl⟩
abbrev main_v121_1 : Ref sig .tc := ⟨.hbm, 162, rfl⟩
abbrev main_v121_2 : Ref sig .tc := ⟨.hbm, 163, rfl⟩
abbrev main_v122 : Ref sig .tc := ⟨.hbm, 164, rfl⟩
abbrev main_v123 : Ref sig .tc := ⟨.hbm, 165, rfl⟩
abbrev main_c_19 : Ref sig .tc := ⟨.hbm, 166, rfl⟩
abbrev main_v124 : Ref sig .tc := ⟨.hbm, 167, rfl⟩
abbrev main_v125 : Ref sig .tc := ⟨.hbm, 168, rfl⟩
abbrev main_c_20 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_c_21 : Ref sig .tc := ⟨.hbm, 175, rfl⟩
abbrev main_v131 : Ref sig .tc := ⟨.hbm, 176, rfl⟩
abbrev main_v132 : Ref sig .tc := ⟨.hbm, 177, rfl⟩
abbrev main_c_22 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_23 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_c_24 : Ref sig .tc := ⟨.hbm, 191, rfl⟩
abbrev main_v144 : Ref sig .tc := ⟨.hbm, 192, rfl⟩
abbrev main_v145 : Ref sig .tc := ⟨.hbm, 193, rfl⟩
abbrev main_c_25 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_26 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_27 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x400x144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x144 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2x400x144 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x144 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S400x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S400x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2x400x144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]
-- ==== ReferenceIdeal.lean ====
abbrev S_ : Shape := ⟨0, ![]⟩
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x256 : Shape := ⟨2, ![1, 256]⟩
abbrev S1 : Shape := ⟨1, ![1]⟩
abbrev S1x320000 : Shape := ⟨2, ![1, 320000]⟩
abbrev S320000 : Shape := ⟨1, ![320000]⟩
abbrev S1x128 : Shape := ⟨2, ![1, 128]⟩
abbrev S320000x1 : Shape := ⟨2, ![320000, 1]⟩
abbrev S320000x128 : Shape := ⟨2, ![320000, 128]⟩
abbrev S320000x256 : Shape := ⟨2, ![320000, 256]⟩
abbrev S256x1 : Shape := ⟨2, ![256, 1]⟩
abbrev S1x1 : Shape := ⟨2, ![1, 1]⟩
abbrev S10000 : Shape := ⟨1, ![10000]⟩
abbrev S10000x1 : Shape := ⟨2, ![10000, 1]⟩
abbrev S10000x320000 : Shape := ⟨2, ![10000, 320000]⟩

abbrev nBuf : Space → Nat
  | .hbm => 304
  | .vmem => 0
  | .smem => 0
  | _ => 0

abbrev hbmTy0_0 (i : Nat) : BufTy := match i % 128 with
  | 0 => ⟨S_, .i32⟩
  | 1 => ⟨S10000x128, .f32⟩
  | 2 => ⟨S2x320000, .i32⟩
  | 3 => ⟨S128x128, .f32⟩
  | 4 => ⟨S128, .f32⟩
  | 5 => ⟨S1x256, .f32⟩
  | 6 => ⟨S1, .f32⟩
  | 7 => ⟨S128x128, .f32⟩
  | 8 => ⟨S128, .f32⟩
  | 9 => ⟨S1x256, .f32⟩
  | 10 => ⟨S1, .f32⟩
  | 11 => ⟨S128x128, .f32⟩
  | 12 => ⟨S128, .f32⟩
  | 13 => ⟨S1x256, .f32⟩
  | 14 => ⟨S1, .f32⟩
  | 15 => ⟨S1x320000, .i32⟩
  | 16 => ⟨S320000, .i32⟩
  | 17 => ⟨S1x320000, .i32⟩
  | 18 => ⟨S320000, .i32⟩
  | 19 => ⟨S128x128, .f32⟩
  | 20 => ⟨S10000x128, .f32⟩
  | 21 => ⟨S1x128, .f32⟩
  | 22 => ⟨S10000x128, .f32⟩
  | 23 => ⟨S10000x128, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x128, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x128, .f32⟩
  | 42 => ⟨S320000x256, .f32⟩
  | 43 => ⟨S256x1, .f32⟩
  | 44 => ⟨S320000x1, .f32⟩
  | 45 => ⟨S1x1, .f32⟩
  | 46 => ⟨S320000x1, .f32⟩
  | 47 => ⟨S320000x1, .f32⟩
  | 48 => ⟨S_, .f32⟩
  | 49 => ⟨S_, .f32⟩
  | 50 => ⟨S320000x1, .f32⟩
  | 51 => ⟨S320000x1, .i1⟩
  | 52 => ⟨S_, .f32⟩
  | 53 => ⟨S320000x1, .f32⟩
  | 54 => ⟨S320000x1, .f32⟩
  | 55 => ⟨S320000x1, .f32⟩
  | 56 => ⟨S320000, .f32⟩
  | 57 => ⟨S10000, .i32⟩
  | 58 => ⟨S1x320000, .i32⟩
  | 59 => ⟨S10000x1, .i32⟩
  | 60 => ⟨S10000x320000, .i32⟩
  | 61 => ⟨S10000x320000, .i32⟩
  | 62 => ⟨S10000x320000, .i1⟩
  | 63 => ⟨S1x320000, .f32⟩
  | 64 => ⟨S_, .f32⟩
  | 65 => ⟨S_, .f32⟩
  | 66 => ⟨S10000x320000, .f32⟩
  | 67 => ⟨S10000x320000, .f32⟩
  | 68 => ⟨S10000x320000, .f32⟩
  | 69 => ⟨S_, .f32⟩
  | 70 => ⟨S10000, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000, .f32⟩
  | 80 => ⟨S320000, .f32⟩
  | 81 => ⟨S320000, .f32⟩
  | 82 => ⟨S_, .f32⟩
  | 83 => ⟨S10000, .f32⟩
  | 84 => ⟨S320000x1, .i32⟩
  | 85 => ⟨S10000, .f32⟩
  | 86 => ⟨S_, .i32⟩
  | 87 => ⟨S320000, .i32⟩
  | 88 => ⟨S320000, .i1⟩
  | 89 => ⟨S_, .i32⟩
  | 90 => ⟨S320000, .i32⟩
  | 91 => ⟨S320000, .i32⟩
  | 92 => ⟨S320000, .i32⟩
  | 93 => ⟨S320000x1, .i32⟩
  | 94 => ⟨S320000, .f32⟩
  | 95 => ⟨S320000, .f32⟩
  | 96 => ⟨S320000x1, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x128, .f32⟩
  | 106 => ⟨S320000x128, .f32⟩
  | 107 => ⟨S320000x128, .f32⟩
  | 108 => ⟨S_, .f32⟩
  | 109 => ⟨S10000x128, .f32⟩
  | 110 => ⟨S320000x1, .i32⟩
  | 111 => ⟨S10000x128, .f32⟩
  | 112 => ⟨S_, .f32⟩
  | 113 => ⟨S10000x128, .f32⟩
  | 114 => ⟨S10000x128, .f32⟩
  | 115 => ⟨S128x128, .f32⟩
  | 116 => ⟨S10000x128, .f32⟩
  | 117 => ⟨S1x128, .f32⟩
  | 118 => ⟨S10000x128, .f32⟩
  | 119 => ⟨S10000x128, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S_, .i32⟩

abbrev hbmTy0_1 (i : Nat) : BufTy := match i % 128 with
  | 0 => ⟨S320000x128, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x128, .f32⟩
  | 10 => ⟨S320000x256, .f32⟩
  | 11 => ⟨S256x1, .f32⟩
  | 12 => ⟨S320000x1, .f32⟩
  | 13 => ⟨S1x1, .f32⟩
  | 14 => ⟨S320000x1, .f32⟩
  | 15 => ⟨S320000x1, .f32⟩
  | 16 => ⟨S_, .f32⟩
  | 17 => ⟨S_, .f32⟩
  | 18 => ⟨S320000x1, .f32⟩
  | 19 => ⟨S320000x1, .i1⟩
  | 20 => ⟨S_, .f32⟩
  | 21 => ⟨S320000x1, .f32⟩
  | 22 => ⟨S320000x1, .f32⟩
  | 23 => ⟨S320000x1, .f32⟩
  | 24 => ⟨S320000, .f32⟩
  | 25 => ⟨S10000, .i32⟩
  | 26 => ⟨S1x320000, .i32⟩
  | 27 => ⟨S10000x1, .i32⟩
  | 28 => ⟨S10000x320000, .i32⟩
  | 29 => ⟨S10000x320000, .i32⟩
  | 30 => ⟨S10000x320000, .i1⟩
  | 31 => ⟨S1x320000, .f32⟩
  | 32 => ⟨S_, .f32⟩
  | 33 => ⟨S_, .f32⟩
  | 34 => ⟨S10000x320000, .f32⟩
  | 35 => ⟨S10000x320000, .f32⟩
  | 36 => ⟨S10000x320000, .f32⟩
  | 37 => ⟨S_, .f32⟩
  | 38 => ⟨S10000, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000, .f32⟩
  | 48 => ⟨S320000, .f32⟩
  | 49 => ⟨S320000, .f32⟩
  | 50 => ⟨S_, .f32⟩
  | 51 => ⟨S10000, .f32⟩
  | 52 => ⟨S320000x1, .i32⟩
  | 53 => ⟨S10000, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S320000, .f32⟩
  | 63 => ⟨S320000, .f32⟩
  | 64 => ⟨S320000x1, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x128, .f32⟩
  | 74 => ⟨S320000x128, .f32⟩
  | 75 => ⟨S320000x128, .f32⟩
  | 76 => ⟨S_, .f32⟩
  | 77 => ⟨S10000x128, .f32⟩
  | 78 => ⟨S320000x1, .i32⟩
  | 79 => ⟨S10000x128, .f32⟩
  | 80 => ⟨S_, .f32⟩
  | 81 => ⟨S10000x128, .f32⟩
  | 82 => ⟨S10000x128, .f32⟩
  | 83 => ⟨S128x128, .f32⟩
  | 84 => ⟨S10000x128, .f32⟩
  | 85 => ⟨S1x128, .f32⟩
  | 86 => ⟨S10000x128, .f32⟩
  | 87 => ⟨S10000x128, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000x128, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x128, .f32⟩
  | 106 => ⟨S320000x256, .f32⟩
  | 107 => ⟨S256x1, .f32⟩
  | 108 => ⟨S320000x1, .f32⟩
  | 109 => ⟨S1x1, .f32⟩
  | 110 => ⟨S320000x1, .f32⟩
  | 111 => ⟨S320000x1, .f32⟩
  | 112 => ⟨S_, .f32⟩
  | 113 => ⟨S_, .f32⟩
  | 114 => ⟨S320000x1, .f32⟩
  | 115 => ⟨S320000x1, .i1⟩
  | 116 => ⟨S_, .f32⟩
  | 117 => ⟨S320000x1, .f32⟩
  | 118 => ⟨S320000x1, .f32⟩
  | 119 => ⟨S320000x1, .f32⟩
  | 120 => ⟨S320000, .f32⟩
  | 121 => ⟨S10000, .i32⟩
  | 122 => ⟨S1x320000, .i32⟩
  | 123 => ⟨S10000x1, .i32⟩
  | 124 => ⟨S10000x320000, .i32⟩
  | 125 => ⟨S10000x320000, .i32⟩
  | 126 => ⟨S10000x320000, .i1⟩
  | 127 => ⟨S1x320000, .f32⟩
  | _ => ⟨S_, .i32⟩

abbrev hbmTy0_2 (i : Nat) : BufTy := match i % 128 with
  | 0 => ⟨S_, .f32⟩
  | 1 => ⟨S_, .f32⟩
  | 2 => ⟨S10000x320000, .f32⟩
  | 3 => ⟨S10000x320000, .f32⟩
  | 4 => ⟨S10000x320000, .f32⟩
  | 5 => ⟨S_, .f32⟩
  | 6 => ⟨S10000, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000, .f32⟩
  | 16 => ⟨S320000, .f32⟩
  | 17 => ⟨S320000, .f32⟩
  | 18 => ⟨S_, .f32⟩
  | 19 => ⟨S10000, .f32⟩
  | 20 => ⟨S320000x1, .i32⟩
  | 21 => ⟨S10000, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000, .f32⟩
  | 31 => ⟨S320000, .f32⟩
  | 32 => ⟨S320000x1, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x128, .f32⟩
  | 42 => ⟨S320000x128, .f32⟩
  | 43 => ⟨S320000x128, .f32⟩
  | 44 => ⟨S_, .f32⟩
  | 45 => ⟨S10000x128, .f32⟩
  | 46 => ⟨S320000x1, .i32⟩
  | 47 => ⟨S10000x128, .f32⟩
  | _ => ⟨S_, .i32⟩

abbrev hbmTy (i : Nat) : BufTy := match i / 128 with
  | 0 => hbmTy0_0 i
  | 1 => hbmTy0_1 i
  | 2 => hbmTy0_2 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_c_5 : Ref sig .tc := ⟨.hbm, 71, rfl⟩
abbrev main_v40 : Ref sig .tc := ⟨.hbm, 72, rfl⟩
abbrev main_v41 : Ref sig .tc := ⟨.hbm, 73, rfl⟩
abbrev main_c_6 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_7 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_8 : Ref sig .tc := ⟨.hbm, 86, rfl⟩
abbrev main_v52 : Ref sig .tc := ⟨.hbm, 87, rfl⟩
abbrev main_v53 : Ref sig .tc := ⟨.hbm, 88, rfl⟩
abbrev main_c_9 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_10 : Ref sig .tc := ⟨.hbm, 97, rfl⟩
abbrev main_v61 : Ref sig .tc := ⟨.hbm, 98, rfl⟩
abbrev main_v62 : Ref sig .tc := ⟨.hbm, 99, rfl⟩
abbrev main_c_11 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_12 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call2_cst : Ref sig .tc := ⟨.hbm, 112, rfl⟩
abbrev main_call2_v0 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_13 : Ref sig .tc := ⟨.hbm, 120, rfl⟩
abbrev main_v79 : Ref sig .tc := ⟨.hbm, 121, rfl⟩
abbrev main_v80 : Ref sig .tc := ⟨.hbm, 122, rfl⟩
abbrev main_c_14 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_15 : Ref sig .tc := ⟨.hbm, 129, rfl⟩
abbrev main_v86 : Ref sig .tc := ⟨.hbm, 130, rfl⟩
abbrev main_v87 : Ref sig .tc := ⟨.hbm, 131, rfl⟩
abbrev main_c_16 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_17 : Ref sig .tc := ⟨.hbm, 144, rfl⟩
abbrev main_call3_cst : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_18 : Ref sig .tc := ⟨.hbm, 160, rfl⟩
abbrev main_call4_v0 : Ref sig .tc := ⟨.hbm, 161, rfl⟩
abbrev main_call4_v1 : Ref sig .tc := ⟨.hbm, 162, rfl⟩
abbrev main_call4_v2 : Ref sig .tc := ⟨.hbm, 163, rfl⟩
abbrev main_v108 : Ref sig .tc := ⟨.hbm, 164, rfl⟩
abbrev main_cst_19 : Ref sig .tc := ⟨.hbm, 165, rfl⟩
abbrev main_v109 : Ref sig .tc := ⟨.hbm, 166, rfl⟩
abbrev main_c_20 : Ref sig .tc := ⟨.hbm, 167, rfl⟩
abbrev main_v110 : Ref sig .tc := ⟨.hbm, 168, rfl⟩
abbrev main_v111 : Ref sig .tc := ⟨.hbm, 169, rfl⟩
abbrev main_c_21 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_22 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_c_23 : Ref sig .tc := ⟨.hbm, 182, rfl⟩
abbrev main_v122 : Ref sig .tc := ⟨.hbm, 183, rfl⟩
abbrev main_v123 : Ref sig .tc := ⟨.hbm, 184, rfl⟩
abbrev main_c_24 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_c_25 : Ref sig .tc := ⟨.hbm, 193, rfl⟩
abbrev main_v131 : Ref sig .tc := ⟨.hbm, 194, rfl⟩
abbrev main_v132 : Ref sig .tc := ⟨.hbm, 195, rfl⟩
abbrev main_c_26 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_cst_27 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_call5_cst : Ref sig .tc := ⟨.hbm, 208, rfl⟩
abbrev main_call5_v0 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_c_28 : Ref sig .tc := ⟨.hbm, 216, rfl⟩
abbrev main_v149 : Ref sig .tc := ⟨.hbm, 217, rfl⟩
abbrev main_v150 : Ref sig .tc := ⟨.hbm, 218, rfl⟩
abbrev main_c_29 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_c_30 : Ref sig .tc := ⟨.hbm, 225, rfl⟩
abbrev main_v156 : Ref sig .tc := ⟨.hbm, 226, rfl⟩
abbrev main_v157 : Ref sig .tc := ⟨.hbm, 227, rfl⟩
abbrev main_c_31 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_cst_32 : Ref sig .tc := ⟨.hbm, 240, rfl⟩
abbrev main_call6_cst : Ref sig .tc := ⟨.hbm, 241, rfl⟩
abbrev main_call6_v0 : Ref sig .tc := ⟨.hbm, 242, rfl⟩
abbrev main_call6_v1 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_cst_33 : Ref sig .tc := ⟨.hbm, 256, rfl⟩
abbrev main_call7_v0 : Ref sig .tc := ⟨.hbm, 257, rfl⟩
abbrev main_call7_v1 : Ref sig .tc := ⟨.hbm, 258, rfl⟩
abbrev main_call7_v2 : Ref sig .tc := ⟨.hbm, 259, rfl⟩
abbrev main_v178 : Ref sig .tc := ⟨.hbm, 260, rfl⟩
abbrev main_cst_34 : Ref sig .tc := ⟨.hbm, 261, rfl⟩
abbrev main_v179 : Ref sig .tc := ⟨.hbm, 262, rfl⟩
abbrev main_c_35 : Ref sig .tc := ⟨.hbm, 263, rfl⟩
abbrev main_v180 : Ref sig .tc := ⟨.hbm, 264, rfl⟩
abbrev main_v181 : Ref sig .tc := ⟨.hbm, 265, rfl⟩
abbrev main_c_36 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_cst_37 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_c_38 : Ref sig .tc := ⟨.hbm, 278, rfl⟩
abbrev main_v192 : Ref sig .tc := ⟨.hbm, 279, rfl⟩
abbrev main_v193 : Ref sig .tc := ⟨.hbm, 280, rfl⟩
abbrev main_c_39 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_c_40 : Ref sig .tc := ⟨.hbm, 289, rfl⟩
abbrev main_v201 : Ref sig .tc := ⟨.hbm, 290, rfl⟩
abbrev main_v202 : Ref sig .tc := ⟨.hbm, 291, rfl⟩
abbrev main_c_41 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_cst_42 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩

abbrev nD : Nat := 1
abbrev τ : Topo := Topo.v7x

variable {F : FTy → Type} [FloatOps F]
-- ==== Proof.Frames.lean ====
/- The three frames and the certificate that the idealized kernel is the kernel: each program runs to its end, leaves
   its arguments as they were and every counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Claim
public import Idealize.ShloMosaic.Lib.Quiescent

@[expose] public section

noncomputable section

namespace Cert.Proof

open Idealize.ShloMosaic Idealize.SL.Sem

/-- The kernel runs to its end, its arguments unchanged, its counters at zero. -/
theorem frame_kernel : Cert.quiescent_Kernel := fun m g _ => Cert.Kernel.Gen.frame m g

/-- The same of the kernel over the ideal values. -/
theorem frame_kernelIdeal : Cert.quiescent_KernelIdeal := fun m g _ => Cert.KernelIdeal.Gen.frame m g

/-- The same under the precondition, which the frame does not use. -/
theorem frame_kernelIdeal_pre : Cert.quiescent_KernelIdeal_pre_finite := fun m g _ => Cert.KernelIdeal.Gen.frame m g

/-- The reference runs to its end, its arguments unchanged, its counters at zero: it has no semaphore at all. -/
theorem frame_referenceIdeal : Cert.quiescent_ReferenceIdeal := fun m g _ =>
  (θ_run (Cert.ReferenceIdeal.defs (F := Ideal)) _ _).mono
    (fun r h => And.intro (fun c => (h c).2) (sem_eq_zero_of_no_sems (by decide) r.2))
    (Cert.ReferenceIdeal.Value.run (F := Ideal) m g)

/-- The same under the precondition, which the frame does not use. -/
theorem frame_referenceIdeal_pre : Cert.quiescent_ReferenceIdeal_pre_finite := fun m g _ =>
  (θ_run (Cert.ReferenceIdeal.defs (F := Ideal)) _ _).mono
    (fun r h => And.intro (fun c => (h c).2) (sem_eq_zero_of_no_sems (by decide) r.2))
    (Cert.ReferenceIdeal.Value.run (F := Ideal) m g)

/-- The idealized kernel is the kernel: no operation was rewritten. -/
theorem preserves : Cert.preserves_Kernel_KernelIdeal := trivial

end Cert.Proof

end
-- ==== Proof.KerRun.lean ====
/- The kernel's run, naming what it leaves in the result array: the last boundary's contents there. -/
module

public import proofs.«01_k».proof.Proof.Gen.KernelIdeal.Frame
public import Idealize.ShloMosaic.PureOps.Ideal.Laws

@[expose] public section

set_option maxRecDepth 16384

noncomputable section

namespace Cert.KernelIdeal.Edges

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

set_option backward.isDefEq.respectTransparency.types false in
/-- Every run ends with the result array at the last boundary's contents and the arguments as launched. -/
theorem kernelRun : θ_run defs (onTc (τ := τ) (main (F := Ideal))) ⟨m, fun _ => 0, ρ⟩ (fun r => ∀ c : Dev nD,
      r.2.mem ((c.tc : Thread nD τ).loc main_v160) = W8 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v160 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Edges

end
-- ==== Proof.KerHost.lean ====
/- The host operations between the kernel launches: what each launch's input arrays hold, as operations on what the
   launch before left and on the arguments. -/
module

public import proofs.«01_k».proof.Proof.Gen.KernelIdeal.Frame
public import Idealize.ShloMosaic.Lib.StableHlo.Run
public import Idealize.ShloMosaic.PureOps.Ideal.Laws

@[expose] public section

set_option maxRecDepth 16384

noncomputable section

namespace Cert.KernelIdeal.Edges

open Idealize.ShloMosaic Idealize.ShloMosaic.TcCoe Idealize.SL.Sem
open Cert.KernelIdeal Cert.KernelIdeal.Gen

/-- The indices wrapped, as a column. -/
def wrapCol (w : IVec S320000 32) : IVec S320000x1 32 :=
  broadcastInDim S320000x1 ![0] bcast_S320000_S320000x1_0 (select (cmpi .slt w (broadcastInDim S320000 ![] bcast_S_S320000 (constantI S_ 32 0#32))) (addi w (broadcastInDim S320000 ![] bcast_S_S320000 (constantI S_ 32 10000#32))) w)

/-- The indices as a column. -/
def rawCol (w : IVec S320000 32) : IVec S320000x1 32 := broadcastInDim S320000x1 ![0] bcast_S320000_S320000x1_0 w

/-- The edges' scores before the rectifier. -/
def kE (s d : FVec Ideal S10000x1 .f32) (src dst : IVec S320000 32) : FVec Ideal S320000 .f32 :=
  addf (Host.gather gather_S10000_S320000x1_S320000_n_0_n_n_0_1_1 (shapeCast S10000 s shapeCasts_S10000x1_S10000) (wrapCol src))
    (Host.gather gather_S10000_S320000x1_S320000_n_0_n_n_0_1_1 (shapeCast S10000 d shapeCasts_S10000x1_S10000) (wrapCol dst))

/-- The edges' weights. -/
def kW (e : FVec Ideal S320000 .f32) : FVec Ideal S320000 .f32 :=
  Host.exp (maximumf e (mulf (broadcastInDim S320000 ![] bcast_S_S320000 (constant S_ .f32 0x3C23D70A#32)) e))

/-- The two accumulators, stacked: the weighted rows added up at their destinations, and zeros. -/
def kAcc (zaug : FVec Ideal S10000x144 .f32) (w : FVec Ideal S320000 .f32) (src dst : IVec S320000 32) : FVec Ideal S2x10000x144 .f32 :=
  concatenate S2x10000x144 0 [⟨S1x10000x144, broadcastInDim S1x10000x144 ![1, 2] bcast_S10000x144_S1x10000x144_1_2
      (Host.scatterAdd scatter_S10000x144_S320000x1_S320000x144_1_0_0_1 (broadcastInDim S10000x144 ![] bcast_S_S10000x144 (constant S_ .f32 0x00000000#32)) (rawCol dst)
        (mulf (broadcastInDim S320000x144 ![0, 1] bcast_S320000x1_S320000x144_0_1 (broadcastInDim S320000x1 ![0] bcast_S320000_S320000x1_0 w))
          (Host.gather gather_S10000x144_S320000x1_S320000x144_1_0_n_n_0_1_1144 zaug (wrapCol src))))⟩,
    ⟨S1x10000x144, broadcastInDim S1x10000x144 ![1, 2] bcast_S10000x144_S1x10000x144_1_2 (broadcastInDim S10000x144 ![] bcast_S_S10000x144 (constant S_ .f32 0x00000000#32))⟩]
    concatenates_S1x10000x144_S1x10000x144_S2x10000x144_d0

/-- The attention row as two columns. -/
def kA (a : FVec Ideal S1x256 .f32) : FVec Ideal S128x2 .f32 :=
  concatenate S128x2 1 [⟨S128x1, broadcastInDim S128x1 ![0] bcast_S128_S128x1_0 (shapeCast S128 (extractStridedSlice S1x128 ![0, 0] a slices_S1x256_S1x128_0_0) shapeCasts_S1x128_S128)⟩,
    ⟨S128x1, broadcastInDim S128x1 ![0] bcast_S128_S128x1_0 (shapeCast S128 (extractStridedSlice S1x128 ![0, 128] a slices_S1x256_S1x128_0_128) shapeCasts_S1x128_S128)⟩]
    concatenates_S128x1_S128x1_S128x2_d1

/-- The attention bias, and a zero. -/
def kB (ab : FVec Ideal S1 .f32) : FVec Ideal S1x2 .f32 :=
  concatenate S1x2 1 [⟨S1x1, broadcastInDim S1x1 ![0] bcast_S1_S1x1_0 ab⟩,
    ⟨S1x1, broadcastInDim S1x1 ![0] bcast_S1_S1x1_0 (broadcastInDim S1 ![] bcast_S_S1 (constant S_ .f32 0x00000000#32))⟩] concatenates_S1x1_S1x1_S1x2_d1

/-- The index row `q` of the edge list. -/
def kSrc (ei : IVec S2x320000 32) : IVec S320000 32 := shapeCast S320000 (extractStridedSlice S1x320000 ![0, 0] ei slices_S2x320000_S1x320000_0_0) shapeCasts_S1x320000_S320000
def kDst (ei : IVec S2x320000 32) : IVec S320000 32 := shapeCast S320000 (extractStridedSlice S1x320000 ![1, 0] ei slices_S2x320000_S1x320000_1_0) shapeCasts_S1x320000_S320000

variable (V : Valuation τ sig (Elt Ideal))

theorem ops0_v1 : StableHlo.after hostOps0 V (Proc.devRef .tc main_v1) = kSrc (V (Proc.devRef .tc main_arg2)) := by
  after_results_simp; rfl
theorem ops0_v3 : StableHlo.after hostOps0 V (Proc.devRef .tc main_v3) = kDst (V (Proc.devRef .tc main_arg2)) := by
  after_results_simp; rfl
theorem ops0_v4 : StableHlo.after hostOps0 V (Proc.devRef .tc main_v4) = transpose S128x128 [1, 0] (V (Proc.devRef .tc main_arg3)) transposes_S128x128_S128x128_1_0 := by
  after_results_simp
theorem ops0_v11 : StableHlo.after hostOps0 V (Proc.devRef .tc main_v11) = kA (V (Proc.devRef .tc main_arg5)) := by
  after_results_simp; rfl
theorem ops0_v15 : StableHlo.after hostOps0 V (Proc.devRef .tc main_v15) = kB (V (Proc.devRef .tc main_arg6)) := by
  after_results_simp; rfl
theorem ops0_v16 : StableHlo.after hostOps0 V (Proc.devRef .tc main_v16) = shapeCast S1x128 (V (Proc.devRef .tc main_arg4)) shapeCasts_S128_S1x128 := by
  after_results_simp; rfl
theorem ops1_acc : StableHlo.after hostOps1 V (Proc.devRef .tc main_v55) = kAcc (V (Proc.devRef .tc main_v17_0))
    (kW (kE (V (Proc.devRef .tc main_v17_1)) (V (Proc.devRef .tc main_v17_2)) (V (Proc.devRef .tc main_v1)) (V (Proc.devRef .tc main_v3))))
    (V (Proc.devRef .tc main_v1)) (V (Proc.devRef .tc main_v3)) := by
  after_results_simp; rfl
theorem ops1_w : StableHlo.after hostOps1 V (Proc.devRef .tc main_v56) = transpose S128x128 [1, 0] (V (Proc.devRef .tc main_arg7)) transposes_S128x128_S128x128_1_0 := by
  after_results_simp
theorem ops1_a : StableHlo.after hostOps1 V (Proc.devRef .tc main_v63) = kA (V (Proc.devRef .tc main_arg9)) := by
  after_results_simp; rfl
theorem ops1_ab : StableHlo.after hostOps1 V (Proc.devRef .tc main_v67) = kB (V (Proc.devRef .tc main_arg10)) := by
  after_results_simp; rfl
theorem ops1_b : StableHlo.after hostOps1 V (Proc.devRef .tc main_v68) = shapeCast S1x128 (V (Proc.devRef .tc main_arg8)) shapeCasts_S128_S1x128 := by
  after_results_simp; rfl
theorem ops2_w : StableHlo.after hostOps2 V (Proc.devRef .tc main_v108) = transpose S128x128 [1, 0] (V (Proc.devRef .tc main_arg11)) transposes_S128x128_S128x128_1_0 := by
  after_results_simp
theorem ops2_a : StableHlo.after hostOps2 V (Proc.devRef .tc main_v115) = kA (V (Proc.devRef .tc main_arg13)) := by
  after_results_simp; rfl
theorem ops2_ab : StableHlo.after hostOps2 V (Proc.devRef .tc main_v119) = kB (V (Proc.devRef .tc main_arg14)) := by
  after_results_simp; rfl
theorem ops2_b : StableHlo.after hostOps2 V (Proc.devRef .tc main_v120) = shapeCast S1x128 (V (Proc.devRef .tc main_arg12)) shapeCasts_S128_S1x128 := by
  after_results_simp; rfl
theorem ops2_acc : StableHlo.after hostOps2 V (Proc.devRef .tc main_v107) = kAcc (V (Proc.devRef .tc main_v69_0))
    (kW (kE (V (Proc.devRef .tc main_v69_1)) (V (Proc.devRef .tc main_v69_2)) (V (Proc.devRef .tc main_v1)) (V (Proc.devRef .tc main_v3))))
    (V (Proc.devRef .tc main_v1)) (V (Proc.devRef .tc main_v3)) := by
  after_results_simp; rfl
theorem ops3_acc : StableHlo.after hostOps3 V (Proc.devRef .tc main_v159) = kAcc (V (Proc.devRef .tc main_v121_0))
    (kW (kE (V (Proc.devRef .tc main_v121_1)) (V (Proc.devRef .tc main_v121_2)) (V (Proc.devRef .tc main_v1)) (V (Proc.devRef .tc main_v3))))
    (V (Proc.devRef .tc main_v1)) (V (Proc.devRef .tc main_v3)) := by
  after_results_simp; rfl

end Cert.KernelIdeal.Edges

end
-- ==== Proof.KerDefs.lean ====
/- What the kernel launches compute, as functions of the arrays they read: sums and quotients at an index. -/
module

public import proofs.«01_k».proof.Proof.Gen.KernelIdeal.Frame
public import Idealize.ShloMosaic.Lib.Pipeline.ValueKit

@[expose] public section

set_option maxRecDepth 16384

noncomputable section

namespace Cert.KernelIdeal.Arr

open Idealize.ShloMosaic Idealize.ShloMosaic.TcCoe Idealize.SL.Sem
open Idealize.ShloMosaic.Pipeline (Dat)
open Cert.KernelIdeal Cert.KernelIdeal.Gen
open Idealize.ShloMosaic.ValueIdx hiding ix0 ix1 ix2 ix3 ix4 ix5

/-- The projected features: `x @ Wt + b`. -/
def Z (X : FVec Ideal S10000x128 .f32) (Wt : FVec Ideal S128x128 .f32) (b : FVec Ideal S1x128 .f32) : FVec Ideal S10000x128 .f32 :=
  fun i => (∑ k : Fin 128, X (ix2 (i 0) k) * Wt (ix2 k (i 1))) + b (ix2 (0 : Fin 1) (i 1))

/-- The features with the sixteen extra lanes: a one in the first of them, zeros in the others. -/
def aug (z : FVec Ideal S10000x128 .f32) : FVec Ideal S10000x144 .f32 :=
  fun i => if h : (i 1).val < 128 then z (ix2 (i 0) (⟨(i 1).val, h⟩ : Fin 128)) else if (i 1).val = 128 then 1 else 0

/-- One of the two attention projections (column `q`). -/
def proj (q : Fin 2) (z : FVec Ideal S10000x128 .f32) (asd : FVec Ideal S128x2 .f32) (abv : FVec Ideal S1x2 .f32) : FVec Ideal S10000x1 .f32 :=
  fun i => (∑ k : Fin 128, z (ix2 (i 0) k) * asd (ix2 k q)) + abv (ix2 (0 : Fin 1) q)

/-- The aggregated rows: the two partial numerators over the two partial denominators, zero where the denominator is
    not positive. -/
def combine (A : FVec Ideal S2x10000x144 .f32) : FVec Ideal S10000x128 .f32 :=
  fun i =>
    if (0 : EReal) < A (ix3 (0 : Fin 2) (i 0) (⟨128, by omega⟩ : Fin 144)) + A (ix3 (1 : Fin 2) (i 0) (⟨128, by omega⟩ : Fin 144)) then
      Ideal.div (A (ix3 (0 : Fin 2) (i 0) (⟨(i 1).val, by have := (i 1).isLt; simp only [Matrix.cons_val] at this; omega⟩ : Fin 144))
          + A (ix3 (1 : Fin 2) (i 0) (⟨(i 1).val, by have := (i 1).isLt; simp only [Matrix.cons_val] at this; omega⟩ : Fin 144)))
        (A (ix3 (0 : Fin 2) (i 0) (⟨128, by omega⟩ : Fin 144)) + A (ix3 (1 : Fin 2) (i 0) (⟨128, by omega⟩ : Fin 144)))
    else 0

/-- The positive part. -/
def relu (z : FVec Ideal S10000x128 .f32) : FVec Ideal S10000x128 .f32 := fun i => max (z i) 0

/-- The extra lanes' value at a lane: the lane number less 128, compared with zero. -/
theorem lane_one (n : Nat) (h : n < 144) (h' : ¬ n < 128) :
    (Scalar.select (IntOp.cmpi CmpIPredicate.eq (BitVec.ofNat 32 (n - 128)) 0#32) (1 : EReal) 0) = if n = 128 then 1 else 0 := by
  by_cases hn : n = 128
  · subst hn; simp [IntOp.cmpi, Scalar.select]
  · have h2 : BitVec.ofNat 32 (n - 128) ≠ 0#32 := by
      intro e
      have := congrArg BitVec.toNat e
      simp at this; omega
    have h3 : (BitVec.ofNat 32 (n - 128) == 0#32) = false := beq_eq_false_iff_ne.2 h2
    simp [IntOp.cmpi, Scalar.select, hn, h3]

/-- The first launch's stored rows, at an index: the features, then the extra lanes. -/
theorem lanes0 (x : Vec Ideal S400x128 .f32) (w : Vec Ideal S128x128 .f32) (b : Vec Ideal S1x128 .f32) (y : S400x144.Idx) :
    k0_pay3 x w b y
      = if h : (y 1).val < 128 then k0_pay1 x w b (ix2 (y 0) (⟨(y 1).val, h⟩ : Fin 128)) else if (y 1).val = 128 then 1 else 0 := by
  have hb := (y 1).isLt
  simp only [Matrix.cons_val] at hb
  pointwise [k0_pay3]
  split
  · rfl
  · rename_i h
    exact lane_one _ hb h

/-- The later launches' stored rows, at an index. -/
theorem lanes1 (z : FVec Ideal S400x128 .f32) (y : S400x144.Idx) : k1_pay1 z k1_pay6 (Scalar.ofBits .f32 0x00000000#32) k1_pay7 y
    = if h : (y 1).val < 128 then z (ix2 (y 0) (⟨(y 1).val, h⟩ : Fin 128)) else if (y 1).val = 128 then 1 else 0 := by
  have hb := (y 1).isLt
  simp only [Matrix.cons_val] at hb
  pointwise [k1_pay1, k1_pay6, k1_pay7]
  split
  · rfl
  · rename_i h
    exact lane_one _ hb h

end Cert.KernelIdeal.Arr

end
-- ==== Proof.Ops.lean ====
/- Row gathers and row scatter-adds read at an index: a gathered row is the table's row at the clamped start index; a
   scattered array's entry is the old entry plus the sum of the updates whose index names its row. -/
module

public import Idealize.ShloMosaic.Lib.Pointwise
public import Idealize.ShloMosaic.PureOps.Ideal.Laws

@[expose] public section

noncomputable section

namespace Cert.Proof

open Idealize.ShloMosaic

/-- The row a signed 32-bit start index names in a table of `N` rows, clamped into the table. -/
def clampRow (N : Nat) (hN : 0 < N) (w : BitVec 32) : Fin N := ⟨min w.toInt.toNat (N - 1), by omega⟩

/-- A gather of scalars. -/
theorem gather1 {α : Type} {N E : Nat} (hN : 0 < N) (wf) (x : (⟨1, ![N]⟩ : Shape).Idx → α) (idx : IVec (⟨2, ![E, 1]⟩ : Shape) 32) (e : Fin E) :
    Host.gather (⟨[], [0], [], [], [0], 1, ![1], wf⟩ : GatherDims ⟨1, ![N]⟩ ⟨2, ![E, 1]⟩ ⟨1, ![E]⟩) x idx (ix1 e)
      = x (ix1 (clampRow N hN (idx (ix2 e (0 : Fin 1))))) := by
  unfold Host.gather
  refine congrArg x (funext fun a => Fin.ext ?_)
  match a with
  | ⟨0, _⟩ =>
    refine (?_ : _ = min (idx (ix2 e (0 : Fin 1))).toInt.toNat (N - 1))
    have hs : ∀ c, (⟨[], [0], [], [], [0], 1, ![1], wf⟩ : GatherDims ⟨1, ![N]⟩ ⟨2, ![E, 1]⟩ ⟨1, ![E]⟩).siIdx (ix1 e) c = ix2 e (0 : Fin 1) := by
      intro c
      funext b
      match b with
      | ⟨0, _⟩ => rfl
      | ⟨1, _⟩ => exact Subsingleton.elim (α := Fin 1) _ _
    simp only [GatherDims.operandIdx]
    show (min (idx (GatherDims.siIdx _ _ _)).toInt.toNat (N - 1) + 0 + 0) = _
    rw [hs]; rfl

/-- A gather of rows. -/
theorem gather2 {α : Type} {N C E : Nat} (hN : 0 < N) (wf) (x : (⟨2, ![N, C]⟩ : Shape).Idx → α) (idx : IVec (⟨2, ![E, 1]⟩ : Shape) 32) (e : Fin E) (c : Fin C) :
    Host.gather (⟨[1], [0], [], [], [0], 1, ![1, C], wf⟩ : GatherDims ⟨2, ![N, C]⟩ ⟨2, ![E, 1]⟩ ⟨2, ![E, C]⟩) x idx (ix2 e c)
      = x (ix2 (clampRow N hN (idx (ix2 e (0 : Fin 1)))) c) := by
  unfold Host.gather
  refine congrArg x (funext fun a => Fin.ext ?_)
  match a with
  | ⟨0, _⟩ =>
    refine (?_ : _ = min (idx (ix2 e (0 : Fin 1))).toInt.toNat (N - 1))
    have hs : ∀ k, (⟨[1], [0], [], [], [0], 1, ![1, C], wf⟩ : GatherDims ⟨2, ![N, C]⟩ ⟨2, ![E, 1]⟩ ⟨2, ![E, C]⟩).siIdx (ix2 e c) k = ix2 e (0 : Fin 1) := by
      intro k
      funext b
      match b with
      | ⟨0, _⟩ => rfl
      | ⟨1, _⟩ => exact Subsingleton.elim (α := Fin 1) _ _
    simp only [GatherDims.operandIdx]
    show (min (idx (GatherDims.siIdx _ _ _)).toInt.toNat (N - 1) + 0 + 0) = _
    rw [hs]; rfl
  | ⟨1, _⟩ =>
    simp only [GatherDims.operandIdx]
    show 0 + 0 + c.val = c.val
    omega

/-- Where a scalar update lands. -/
theorem lands1 {N E : Nat} (wf) (idx : IVec (⟨2, ![E, 1]⟩ : Shape) 32) (e : Fin E) (n : Fin N) :
    (⟨[], [0], [0], 1, wf⟩ : ScatterDims ⟨1, ![N]⟩ ⟨2, ![E, 1]⟩ ⟨1, ![E]⟩).resultIdx? (ix1 e) idx = some (ix1 n)
      ↔ (idx (ix2 e (0 : Fin 1))).toInt = (n.val : Int) := by
  set d := (⟨[], [0], [0], 1, wf⟩ : ScatterDims ⟨1, ![N]⟩ ⟨2, ![E, 1]⟩ ⟨1, ![E]⟩) with hd
  have hs : ∀ k, d.siIdx (ix1 e) k = ix2 e (0 : Fin 1) := by
    intro k
    funext b
    match b with
    | ⟨0, _⟩ => rfl
    | ⟨1, _⟩ => exact Subsingleton.elim (α := Fin 1) _ _
  have h0 : d.start (ix1 e) idx 0 + d.window (ix1 e) 0 = (idx (ix2 e (0 : Fin 1))).toInt := by
    show (idx (d.siIdx _ _)).toInt + ((0 : Nat) : Int) = _
    rw [hs]; simp
  unfold ScatterDims.resultIdx?
  split
  · rename_i h
    have hh := h 0
    rw [h0] at hh
    rw [Option.some.injEq]
    constructor
    · intro he
      have := congrArg Fin.val (congrFun he 0)
      simp only [h0, ix1_0] at this
      omega
    · intro he
      funext a
      obtain rfl : a = 0 := Subsingleton.elim _ _
      apply Fin.ext
      simp only [h0, ix1_0]
      omega
  · rename_i h
    constructor
    · intro he; cases he
    · intro he
      refine absurd (fun a => ?_) h
      obtain rfl : a = 0 := Subsingleton.elim _ _
      rw [h0, he]
      refine ⟨by omega, ?_⟩
      show (n.val : Int) < (N : Int)
      have := n.isLt
      omega

/-- Where an entry of a row update lands. -/
theorem lands2 {N C E : Nat} (wf) (idx : IVec (⟨2, ![E, 1]⟩ : Shape) 32) (e : Fin E) (n : Fin N) (c c' : Fin C) :
    (⟨[1], [0], [0], 1, wf⟩ : ScatterDims ⟨2, ![N, C]⟩ ⟨2, ![E, 1]⟩ ⟨2, ![E, C]⟩).resultIdx? (ix2 e c) idx = some (ix2 n c')
      ↔ (idx (ix2 e (0 : Fin 1))).toInt = (n.val : Int) ∧ c = c' := by
  set d := (⟨[1], [0], [0], 1, wf⟩ : ScatterDims ⟨2, ![N, C]⟩ ⟨2, ![E, 1]⟩ ⟨2, ![E, C]⟩) with hd
  have hs : ∀ k, d.siIdx (ix2 e c) k = ix2 e (0 : Fin 1) := by
    intro k
    funext b
    match b with
    | ⟨0, _⟩ => rfl
    | ⟨1, _⟩ => exact Subsingleton.elim (α := Fin 1) _ _
  have h0 : d.start (ix2 e c) idx 0 + d.window (ix2 e c) 0 = (idx (ix2 e (0 : Fin 1))).toInt := by
    show (idx (d.siIdx _ _)).toInt + ((0 : Nat) : Int) = _
    rw [hs]; simp
  have h1 : d.start (ix2 e c) idx 1 + d.window (ix2 e c) 1 = (c.val : Int) := by
    show (0 : Int) + (c.val : Int) = _
    simp
  unfold ScatterDims.resultIdx?
  split
  · rename_i h
    have hh := h 0
    rw [h0] at hh
    rw [Option.some.injEq]
    constructor
    · intro he
      have e0 := congrArg Fin.val (congrFun he 0)
      have e1 := congrArg Fin.val (congrFun he 1)
      simp only [h0, ix2_0] at e0
      simp only [h1, ix2_1] at e1
      exact ⟨by omega, Fin.ext (by omega)⟩
    · rintro ⟨he, rfl⟩
      funext a
      match a with
      | ⟨0, _⟩ =>
        apply Fin.ext
        show (d.start (ix2 e c) idx 0 + d.window (ix2 e c) 0).toNat = n.val
        rw [h0]; omega
      | ⟨1, _⟩ =>
        apply Fin.ext
        show (d.start (ix2 e c) idx 1 + d.window (ix2 e c) 1).toNat = c.val
        rw [h1]; omega
  · rename_i h
    constructor
    · intro he; cases he
    · rintro ⟨he, rfl⟩
      refine absurd (fun a => ?_) h
      match a with
      | ⟨0, _⟩ =>
        show 0 ≤ d.start (ix2 e c) idx 0 + d.window (ix2 e c) 0 ∧ d.start (ix2 e c) idx 0 + d.window (ix2 e c) 0 < (N : Int)
        rw [h0, he]
        have := n.isLt
        exact ⟨by omega, by omega⟩
      | ⟨1, _⟩ =>
        show 0 ≤ d.start (ix2 e c) idx 1 + d.window (ix2 e c) 1 ∧ d.start (ix2 e c) idx 1 + d.window (ix2 e c) 1 < (C : Int)
        rw [h1]
        have := c.isLt
        exact ⟨by omega, by omega⟩

/-- A scatter-add of scalars, at an entry. -/
theorem scatter1 {N E : Nat} (wf) (x : (⟨1, ![N]⟩ : Shape).Idx → Ideal .f32) (idx : IVec (⟨2, ![E, 1]⟩ : Shape) 32)
    (upd : (⟨1, ![E]⟩ : Shape).Idx → Ideal .f32) (n : Fin N) :
    Ideal.hostScatterAdd (⟨[], [0], [0], 1, wf⟩ : ScatterDims ⟨1, ![N]⟩ ⟨2, ![E, 1]⟩ ⟨1, ![E]⟩) x idx upd (ix1 n)
      = (x (ix1 n) : EReal) + ∑ e ∈ Finset.univ.filter (fun e : Fin E => (idx (ix2 e (0 : Fin 1))).toInt = (n.val : Int)), (upd (ix1 e) : EReal) := by
  unfold Ideal.hostScatterAdd
  congr 1
  rw [Finset.sum_filter, Finset.sum_filter]
  refine (sum_idx1 _).trans (Finset.sum_congr rfl fun e _ => ?_)
  exact if_congr (lands1 wf idx e n) rfl rfl

/-- A scatter-add of rows, at an entry. -/
theorem scatter2 {N C E : Nat} (wf) (x : (⟨2, ![N, C]⟩ : Shape).Idx → Ideal .f32) (idx : IVec (⟨2, ![E, 1]⟩ : Shape) 32)
    (upd : (⟨2, ![E, C]⟩ : Shape).Idx → Ideal .f32) (n : Fin N) (c : Fin C) :
    Ideal.hostScatterAdd (⟨[1], [0], [0], 1, wf⟩ : ScatterDims ⟨2, ![N, C]⟩ ⟨2, ![E, 1]⟩ ⟨2, ![E, C]⟩) x idx upd (ix2 n c)
      = (x (ix2 n c) : EReal) + ∑ e ∈ Finset.univ.filter (fun e : Fin E => (idx (ix2 e (0 : Fin 1))).toInt = (n.val : Int)), (upd (ix2 e c) : EReal) := by
  unfold Ideal.hostScatterAdd
  congr 1
  rw [Finset.sum_filter, Finset.sum_filter]
  refine (sum_idx2 _).trans (Finset.sum_congr rfl fun e _ => ?_)
  refine (Finset.sum_congr rfl fun k _ => if_congr (lands2 wf idx e n k c) rfl rfl).trans ?_
  by_cases h : (idx (ix2 e (0 : Fin 1))).toInt = (n.val : Int)
  · simp [h]
  · simp [h]

end Cert.Proof

end
-- ==== Proof.Real.lean ====
/- Extended reals that are reals: sums, quotients, exponentials and maxima of them, and the weighted mean a graph
   attention layer takes over a node's incoming edges, in the reference's form (weights shifted by a maximum and
   normalized first) and in the kernel's (the quotient of two sums). -/
module

public import Idealize.ShloMosaic.PureOps.Ideal.Laws

@[expose] public section

noncomputable section

namespace Cert.Proof

open Idealize.ShloMosaic

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals that are reals. -/
theorem sum_coe {ι : Type} (s : Finset ι) (g : ι → EReal) (f : ι → ℝ) (h : ∀ i ∈ s, g i = (f i : EReal)) :
    ∑ i ∈ s, g i = ((∑ i ∈ s, f i : ℝ) : EReal) := by
  rw [coe_sum]; exact Finset.sum_congr rfl h

/-- A quotient of reals by a nonzero real. -/
theorem div_real (x y : ℝ) (h : y ≠ 0) : Ideal.div (x : EReal) (y : EReal) = ((x / y : ℝ) : EReal) := by
  rw [Ideal.div_coe h, ← EReal.coe_mul, mul_one_div]

/-- The slope of the leaky rectifier, a real between zero and one. -/
def slope : ℝ := 10737418 / 2 ^ 30

theorem slope_eq : Ideal.ofBits .f32 0x3C23D70A#32 = (slope : EReal) := by
  simp [Ideal.ofBits, Ideal.ieee, slope]
  rw [← EReal.coe_mul]
  congr 1

theorem slope_nonneg : 0 ≤ slope := by unfold slope; norm_num

theorem slope_le : slope ≤ 1 := by unfold slope; norm_num

theorem neg_inf : Ideal.ofBits .f32 0xFF800000#32 = ⊥ := by simp [Ideal.ofBits, Ideal.ieee]

/-- The leaky rectifier of a real. -/
def leaky (t : ℝ) : ℝ := max t (slope * t)

theorem leaky_of_nonneg {t : ℝ} (h : 0 ≤ t) : leaky t = t := by
  have := slope_le
  unfold leaky; exact max_eq_left (by nlinarith)

theorem leaky_of_neg {t : ℝ} (h : ¬ 0 ≤ t) : leaky t = slope * t := by
  have := slope_le
  unfold leaky; exact max_eq_right (by nlinarith)

theorem max_coe (x y : ℝ) : max (x : EReal) (y : EReal) = ((max x y : ℝ) : EReal) :=
  (EReal.coe_strictMono.monotone.map_max).symm

/-- The mean of `z` over a set, weighted by `exp (ℓ ·)`; zero over the empty set. -/
def mean {ι : Type} (s : Finset ι) (ℓ z : ι → ℝ) : ℝ := (∑ e ∈ s, Real.exp (ℓ e) * z e) / ∑ e ∈ s, Real.exp (ℓ e)

theorem sum_exp_pos {ι : Type} (s : Finset ι) (h : s.Nonempty) (ℓ : ι → ℝ) : 0 < ∑ e ∈ s, Real.exp (ℓ e) :=
  Finset.sum_pos (fun _ _ => Real.exp_pos _) h

/-- The reference's form: weights shifted by any real and normalized one by one. -/
theorem mean_shift {ι : Type} (s : Finset ι) (ℓ z : ι → ℝ) (μ : ℝ) :
    ∑ e ∈ s, (Real.exp (ℓ e - μ) / ∑ e ∈ s, Real.exp (ℓ e - μ)) * z e = mean s ℓ z := by
  have h1 : ∑ e ∈ s, Real.exp (ℓ e - μ) = (∑ e ∈ s, Real.exp (ℓ e)) * Real.exp (-μ) := by
    rw [Finset.sum_mul]; exact Finset.sum_congr rfl fun e _ => by rw [← Real.exp_add]; ring_nf
  have h2 : ∀ e, Real.exp (ℓ e - μ) = Real.exp (ℓ e) * Real.exp (-μ) := fun e => by rw [← Real.exp_add]; ring_nf
  have hm : Real.exp (-μ) ≠ 0 := (Real.exp_pos _).ne'
  unfold mean
  rw [Finset.sum_div]
  refine Finset.sum_congr rfl fun e _ => ?_
  rw [h1, h2, mul_div_mul_right _ _ hm]; ring

/-- The kernel's form: the quotient of the two sums where the second is positive. -/
theorem mean_quot {ι : Type} (s : Finset ι) (ℓ z : ι → ℝ) (num den : EReal) (hn : num = ((∑ e ∈ s, Real.exp (ℓ e) * z e : ℝ) : EReal))
    (hd : den = ((∑ e ∈ s, Real.exp (ℓ e) : ℝ) : EReal)) : (if 0 < den then Ideal.div num den else 0) = (mean s ℓ z : EReal) := by
  subst hn hd
  rcases s.eq_empty_or_nonempty with rfl | h
  · simp [mean]
  · have hp := sum_exp_pos s h ℓ
    rw [if_pos (by exact_mod_cast hp), div_real _ _ hp.ne']; rfl

/-- The maximum of finitely many extended reals, some real and the others `⊥`, at least one real: a real. -/
theorem fold_max_real {ι : Type} (s : Finset ι) (f : ι → EReal) (hf : ∀ i ∈ s, f i ≠ ⊤) (h : ∃ i ∈ s, f i ≠ ⊥) :
    ∃ μ : ℝ, s.fold max ⊥ f = (μ : EReal) := by
  classical
  have ht : s.fold max ⊥ f ≠ ⊤ := by
    have : s.fold max ⊥ f < ⊤ := by
      rw [Finset.fold_max_lt]
      exact ⟨bot_lt_top, fun i hi => lt_top_iff_ne_top.2 (hf i hi)⟩
    exact this.ne
  have hb : s.fold max ⊥ f ≠ ⊥ := by
    obtain ⟨i, hi, hne⟩ := h
    have : ⊥ < s.fold max ⊥ f := by
      rw [Finset.lt_fold_max]
      exact Or.inr ⟨i, hi, bot_lt_iff_ne_bot.2 hne⟩
    exact this.ne'
  exact ⟨_, (EReal.coe_toReal ht hb).symm⟩

end Cert.Proof

end
-- ==== Proof.RefOps.lean ====
/- The reference's operations over the edges, each at an index. -/
module

public import proofs.«01_k».proof.Proof.Gen.ReferenceIdeal
public import proofs.«01_k».proof.Proof.Ops
public import proofs.«01_k».proof.Proof.Real
public import Idealize.ShloMosaic.Lib.Pointwise

@[expose] public section

set_option maxRecDepth 16384

noncomputable section

namespace Cert.Proof

open Idealize.ShloMosaic
open Cert.ReferenceIdeal Cert.ReferenceIdeal.Gen

/-- An index word with 10000 added when it is negative. -/
def wrapWord (w : BitVec 32) : BitVec 32 := Scalar.select (IntOp.cmpi .slt w 0#32) (IntOp.addi w 10000#32) w

/-- The row an index word reads: wrapped, then clamped. -/
def row (w : BitVec 32) : Fin 10000 := clampRow 10000 (by decide) (wrapWord w)

/-- A word that is a row's number reads that row. -/
theorem row_of (w : BitVec 32) (n : Fin 10000) (h : w.toInt = (n.val : Int)) : row w = n := by
  have hw : wrapWord w = w := by
    have : IntOp.cmpi .slt w 0#32 = 0#1 := by
      have : w.slt 0#32 = false := by
        simp only [BitVec.slt, BitVec.toInt_zero, decide_eq_false_iff_not]; omega
      simp [IntOp.cmpi, this]
    simp [wrapWord, this, Scalar.select]
  apply Fin.ext
  have := n.isLt
  simp only [row, clampRow, hw, h]
  omega

/-- The edges into a node. -/
def into (dst : IVec S320000 32) (n : Fin 10000) : Finset (Fin 320000) :=
  Finset.univ.filter fun e => (dst (ix1 e)).toInt = (n.val : Int)

theorem row_into {dst : IVec S320000 32} {n : Fin 10000} {e : Fin 320000} (h : e ∈ into dst n) : row (dst (ix1 e)) = n :=
  row_of _ _ (Finset.mem_filter.1 h).2

/-- The wrapped indices as a column. -/
def wrapCol (w : IVec S320000 32) : IVec S320000x1 32 :=
  broadcastInDim S320000x1 ![0] bcast_S320000_S320000x1_0 (select (cmpi .slt w (broadcastInDim S320000 ![] bcast_S_S320000 (constantI S_ 32 0#32))) (addi w (broadcastInDim S320000 ![] bcast_S_S320000 (constantI S_ 32 10000#32))) w)

/-- The indices as a column. -/
def rawCol (w : IVec S320000 32) : IVec S320000x1 32 := broadcastInDim S320000x1 ![0] bcast_S320000_S320000x1_0 w

theorem wrapCol_at (w : IVec S320000 32) (e : Fin 320000) : wrapCol w (ix2 e (0 : Fin 1)) = wrapWord (w (ix1 e)) := by
  pointwise [wrapCol, wrapWord]

theorem rawCol_at (w : IVec S320000 32) (e : Fin 320000) : rawCol w (ix2 e (0 : Fin 1)) = w (ix1 e) := by
  pointwise [rawCol]

/-- Rows gathered at wrapped indices. -/
theorem rows_at (z : FVec Ideal S10000x128 .f32) (w : IVec S320000 32) (e : Fin 320000) (j : Fin 128) :
    Host.gather gather_S10000x128_S320000x1_S320000x128_1_0_n_n_0_1_1128 z (wrapCol w) (ix2 e j) = z (ix2 (row (w (ix1 e))) j) := by
  refine (gather2 (by decide) _ z (wrapCol w) e j).trans ?_
  rw [wrapCol_at]; rfl

/-- Scalars gathered at wrapped indices. -/
theorem vals_at (x : FVec Ideal S10000 .f32) (w : IVec S320000 32) (e : Fin 320000) :
    Host.gather gather_S10000_S320000x1_S320000_n_0_n_n_0_1_1 x (wrapCol w) (ix1 e) = x (ix1 (row (w (ix1 e)))) := by
  refine (gather1 (by decide) _ x (wrapCol w) e).trans ?_
  rw [wrapCol_at]; rfl

/-- Scalars added up at raw indices. -/
theorem addVals_at (x : FVec Ideal S10000 .f32) (w : IVec S320000 32) (u : FVec Ideal S320000 .f32) (n : Fin 10000) :
    Host.scatterAdd scatter_S10000_S320000x1_S320000_n_0_0_1 x (rawCol w) u (ix1 n)
      = (x (ix1 n) : EReal) + ∑ e ∈ into w n, (u (ix1 e) : EReal) := by
  refine (scatter1 _ x (rawCol w) u n).trans ?_
  simp only [rawCol_at]; rfl

/-- Rows added up at raw indices. -/
theorem addRows_at (x : FVec Ideal S10000x128 .f32) (w : IVec S320000 32) (u : FVec Ideal S320000x128 .f32) (n : Fin 10000) (j : Fin 128) :
    Host.scatterAdd scatter_S10000x128_S320000x1_S320000x128_1_0_0_1 x (rawCol w) u (ix2 n j)
      = (x (ix2 n j) : EReal) + ∑ e ∈ into w n, (u (ix2 e j) : EReal) := by
  refine (scatter2 _ x (rawCol w) u n j).trans ?_
  simp only [rawCol_at]; rfl

/-- The layer's projected features. -/
def rZ (X : FVec Ideal S10000x128 .f32) (W : FVec Ideal S128x128 .f32) (b : FVec Ideal S128 .f32) : FVec Ideal S10000x128 .f32 :=
  addf (Host.dotGeneral dot_S10000x128_S128x128_S10000x128_1_0_0_1_n_n none X (transpose S128x128 [1, 0] W transposes_S128x128_S128x128_1_0)) (broadcastInDim S10000x128 ![0, 1] bcast_S1x128_S10000x128_0_1 (broadcastInDim S1x128 ![1] bcast_S128_S1x128_1 b))

theorem rZ_at (X W b) (n : Fin 10000) (j : Fin 128) : rZ X W b (ix2 n j) = (∑ k : Fin 128, (X (ix2 n k) * W (ix2 j k) : EReal)) + b (ix1 j) := by
  pointwise [rZ]

/-- The edges' scores before the rectifier. -/
def rE (z : FVec Ideal S10000x128 .f32) (a : FVec Ideal S1x256 .f32) (ab : FVec Ideal S1 .f32) (src dst : IVec S320000 32) : FVec Ideal S320000x1 .f32 :=
  addf (Host.dotGeneral dot_S320000x256_S256x1_S320000x1_1_0_0_1_n_n none (concatenate S320000x256 1 [⟨S320000x128, (Host.gather gather_S10000x128_S320000x1_S320000x128_1_0_n_n_0_1_1128 z (wrapCol src))⟩, ⟨S320000x128, (Host.gather gather_S10000x128_S320000x1_S320000x128_1_0_n_n_0_1_1128 z (wrapCol dst))⟩] concatenates_S320000x128_S320000x128_S320000x256_d1) (transpose S256x1 [1, 0] a transposes_S1x256_S256x1_1_0)) (broadcastInDim S320000x1 ![0, 1] bcast_S1x1_S320000x1_0_1 (broadcastInDim S1x1 ![1] bcast_S1_S1x1_1 ab))

theorem cat_at (A B : FVec Ideal S320000x128 .f32) (e : Fin 320000) (k : Fin 256) :
    concatenate S320000x256 1 [⟨S320000x128, A⟩, ⟨S320000x128, B⟩] concatenates_S320000x128_S320000x128_S320000x256_d1 (ix2 e k)
      = if h : k.val < 128 then A (ix2 e (⟨k.val, h⟩ : Fin 128)) else B (ix2 e (⟨k.val - 128, by omega⟩ : Fin 128)) := by
  pointwise []

theorem dotE_at (X : FVec Ideal S320000x256 .f32) (a : FVec Ideal S1x256 .f32) (ab : FVec Ideal S1 .f32) (e : Fin 320000) :
    addf (Host.dotGeneral dot_S320000x256_S256x1_S320000x1_1_0_0_1_n_n none X (transpose S256x1 [1, 0] a transposes_S1x256_S256x1_1_0)) (broadcastInDim S320000x1 ![0, 1] bcast_S1x1_S320000x1_0_1 (broadcastInDim S1x1 ![1] bcast_S1_S1x1_1 ab)) (ix2 e (0 : Fin 1))
      = (∑ k : Fin 256, (X (ix2 e k) * a (ix2 (0 : Fin 1) k) : EReal)) + ab (ix1 (0 : Fin 1)) := by
  pointwise []

/-- The scores after the rectifier. -/
def rL (e : FVec Ideal S320000x1 .f32) : FVec Ideal S320000 .f32 :=
  shapeCast _ (select (cmpf .oge e (broadcastInDim S320000x1 ![] bcast_S_S320000x1 (constant S_ .f32 0x00000000#32))) e (mulf (broadcastInDim S320000x1 ![] bcast_S_S320000x1 (id (constant S_ .f32 0x3C23D70A#32))) e)) shapeCasts_S320000x1_S320000

theorem rL_at (x : FVec Ideal S320000x1 .f32) (e : Fin 320000) : rL x (ix1 e)
    = Scalar.select (Scalar.cmpf .oge (x (ix2 e (0 : Fin 1))) 0) (x (ix2 e (0 : Fin 1))) (Ideal.ofBits .f32 0x3C23D70A#32 * x (ix2 e (0 : Fin 1)) : EReal) := by
  pointwise [rL, id]

/-- The largest score into each node. -/
def rM (l : FVec Ideal S320000 .f32) (dst : IVec S320000 32) : FVec Ideal S10000 .f32 :=
  Host.reduce FloatOps.maximumf (select (cmpi .eq (broadcastInDim S10000x320000 ![0, 1] bcast_S1x320000_S10000x320000_0_1 (broadcastInDim S1x320000 ![1] bcast_S320000_S1x320000_1 dst)) (broadcastInDim S10000x320000 ![0, 1] bcast_S10000x1_S10000x320000_0_1 (broadcastInDim S10000x1 ![0] bcast_S10000_S10000x1_0 (iotaInDim S10000 32 0)))) (broadcastInDim S10000x320000 ![0, 1] bcast_S1x320000_S10000x320000_0_1 (broadcastInDim S1x320000 ![1] bcast_S320000_S1x320000_1 l)) (broadcastInDim S10000x320000 ![] bcast_S_S10000x320000 (id (constant S_ .f32 0xFF800000#32)))) (constant S_ .f32 0xFF800000#32) reducesTo_S10000x320000_S10000_d1 h_S_

theorem rM_at (l : FVec Ideal S320000 .f32) (dst : IVec S320000 32) (n : Fin 10000) : rM l dst (ix1 n)
    = Finset.fold max ⊥ (fun e : Fin 320000 => (Scalar.select (IntOp.cmpi .eq (dst (ix1 e)) (BitVec.ofNat 32 n.val)) (l (ix1 e)) ⊥ : EReal)) Finset.univ := by
  pointwise [rM, id]
  simp only [neg_inf]

end Cert.Proof

end
-- ==== Proof.RefLayer.lean ====
/- One layer of the reference: where the projected features are real, each node's row is the weighted mean of its
   incoming edges' rows. -/
module

public import proofs.«01_k».proof.Proof.RefOps

@[expose] public section

set_option maxRecDepth 16384

noncomputable section

namespace Cert.Proof

open Idealize.ShloMosaic
open Cert.ReferenceIdeal Cert.ReferenceIdeal.Gen

/-- A row's projected features, in reals. -/
def zReal (h : Fin 10000 → Fin 128 → ℝ) (W : Fin 128 → Fin 128 → ℝ) (b : Fin 128 → ℝ) (n : Fin 10000) (j : Fin 128) : ℝ :=
  (∑ k : Fin 128, h n k * W j k) + b j

/-- An edge's score, in reals. -/
def score (z : Fin 10000 → Fin 128 → ℝ) (a : Fin 256 → ℝ) (ab : ℝ) (s g : Fin 10000) : ℝ :=
  leaky ((∑ k : Fin 128, z s k * a (⟨k.val, by omega⟩ : Fin 256)) + (∑ k : Fin 128, z g k * a (⟨k.val + 128, by omega⟩ : Fin 256)) + ab)

/-- An edge's score, from its index words. -/
def edge (src dst : IVec S320000 32) (z : Fin 10000 → Fin 128 → ℝ) (a : Fin 256 → ℝ) (ab : ℝ) (e : Fin 320000) : ℝ :=
  score z a ab (row (src (ix1 e))) (row (dst (ix1 e)))

/-- A layer's result, in reals. -/
def layer (src dst : IVec S320000 32) (z : Fin 10000 → Fin 128 → ℝ) (a : Fin 256 → ℝ) (ab : ℝ) (n : Fin 10000) (j : Fin 128) : ℝ :=
  mean (into dst n) (edge src dst z a ab) fun e => z (row (src (ix1 e))) j

/-- The projected features of real features are real. -/
theorem rZ_real (X : FVec Ideal S10000x128 .f32) (W : FVec Ideal S128x128 .f32) (b : FVec Ideal S128 .f32) (h : Fin 10000 → Fin 128 → ℝ)
    (w : Fin 128 → Fin 128 → ℝ) (β : Fin 128 → ℝ) (hX : ∀ n k, X (ix2 n k) = (h n k : EReal)) (hW : ∀ j k, W (ix2 j k) = (w j k : EReal))
    (hb : ∀ j, b (ix1 j) = (β j : EReal)) (n : Fin 10000) (j : Fin 128) : rZ X W b (ix2 n j) = (zReal h w β n j : EReal) := by
  rw [rZ_at, hb, sum_coe Finset.univ _ (fun k => h n k * w j k) fun k _ => by rw [hX, hW, ← EReal.coe_mul], ← EReal.coe_add]
  rfl

/-- A sum over 256 lanes is the sum over the first 128 and the sum over the last. -/
theorem sum_256 (f : Fin 256 → ℝ) : ∑ k, f k = (∑ k : Fin 128, f (⟨k.val, by omega⟩ : Fin 256)) + ∑ k : Fin 128, f (⟨k.val + 128, by omega⟩ : Fin 256) := by
  refine (Fin.sum_univ_add (a := 128) (b := 128) f).trans (congrArg₂ (· + ·) rfl (Finset.sum_congr rfl fun k _ => congrArg f (Fin.ext ?_)))
  simp [Nat.add_comm]

section Layer

variable {src dst : IVec S320000 32} {z : FVec Ideal S10000x128 .f32} {zr : Fin 10000 → Fin 128 → ℝ} (hz : ∀ n k, z (ix2 n k) = (zr n k : EReal))
  {a : FVec Ideal S1x256 .f32} {ar : Fin 256 → ℝ} (ha : ∀ k, a (ix2 (0 : Fin 1) k) = (ar k : EReal))
  {ab : FVec Ideal S1 .f32} {abr : ℝ} (hab : ab (ix1 (0 : Fin 1)) = (abr : EReal))

include hz ha hab in
/-- The scores before the rectifier. -/
theorem rE_real (e : Fin 320000) : rE z a ab src dst (ix2 e (0 : Fin 1))
    = (((∑ k : Fin 128, zr (row (src (ix1 e))) k * ar (⟨k.val, by omega⟩ : Fin 256))
      + (∑ k : Fin 128, zr (row (dst (ix1 e))) k * ar (⟨k.val + 128, by omega⟩ : Fin 256)) + abr : ℝ) : EReal) := by
  refine (dotE_at _ a ab e).trans ?_
  rw [hab, sum_coe Finset.univ _ (fun k : Fin 256 => (if h : k.val < 128 then zr (row (src (ix1 e))) (⟨k.val, h⟩ : Fin 128)
      else zr (row (dst (ix1 e))) (⟨k.val - 128, by omega⟩ : Fin 128)) * ar k) fun k _ => ?_, ← EReal.coe_add, sum_256]
  · congr 3
  · rw [cat_at, ha]
    split
    · rw [rows_at, hz, ← EReal.coe_mul]
    · rw [rows_at, hz, ← EReal.coe_mul]

include hz ha hab in
/-- The scores. -/
theorem rL_real (e : Fin 320000) : rL (rE z a ab src dst) (ix1 e) = (edge src dst zr ar abr e : EReal) := by
  rw [rL_at, rE_real hz ha hab]
  unfold edge score
  generalize (∑ k : Fin 128, zr (row (src (ix1 e))) k * ar (⟨k.val, by omega⟩ : Fin 256))
      + (∑ k : Fin 128, zr (row (dst (ix1 e))) k * ar (⟨k.val + 128, by omega⟩ : Fin 256)) + abr = t
  by_cases h : 0 ≤ t
  · rw [leaky_of_nonneg h]
    have : (0 : EReal) ≤ (t : EReal) := by exact_mod_cast h
    pointwise []
    simp [this]
  · rw [leaky_of_neg h]
    have : ¬ (0 : EReal) ≤ (t : EReal) := by exact_mod_cast h
    pointwise []
    rw [if_neg this, slope_eq, EReal.coe_mul]

end Layer

/-- The exponentials of the shifted scores. -/
def rEx (l : FVec Ideal S320000 .f32) (dst : IVec S320000 32) : FVec Ideal S320000 .f32 :=
  Host.exp (subf l (Host.gather gather_S10000_S320000x1_S320000_n_0_n_n_0_1_1 (rM l dst) (wrapCol dst)))

theorem rEx_at (l : FVec Ideal S320000 .f32) (dst : IVec S320000 32) (e : Fin 320000) :
    rEx l dst (ix1 e) = Ideal.exp (l (ix1 e) - rM l dst (ix1 (row (dst (ix1 e))))) := by
  exact congrArg (fun t : EReal => Ideal.exp (l (ix1 e) - t)) (vals_at (rM l dst) dst e)

/-- Where the scores are real, a node with an incoming edge has a real maximum. -/
theorem rM_real (l : FVec Ideal S320000 .f32) (dst : IVec S320000 32) (ℓ : Fin 320000 → ℝ) (hl : ∀ e, l (ix1 e) = (ℓ e : EReal))
    (n : Fin 10000) (h : (into dst n).Nonempty) : ∃ μ : ℝ, rM l dst (ix1 n) = (μ : EReal) := by
  rw [rM_at]
  refine fold_max_real _ _ (fun e _ => ?_) ?_
  · unfold Scalar.select
    split
    · rw [hl]; exact EReal.coe_ne_top _
    · exact bot_ne_top
  · obtain ⟨e, he⟩ := h
    refine ⟨e, Finset.mem_univ _, ?_⟩
    have hw : dst (ix1 e) = BitVec.ofNat 32 n.val := by
      have h1 := (Finset.mem_filter.1 he).2
      have := n.isLt
      apply BitVec.eq_of_toInt_eq
      have hnat : (BitVec.ofNat 32 n.val).toNat = n.val := by rw [BitVec.toNat_ofNat]; omega
      rw [h1, BitVec.toInt_eq_toNat_of_lt (by rw [hnat]; omega), hnat]
    have : IntOp.cmpi .eq (dst (ix1 e)) (BitVec.ofNat 32 n.val) = 1#1 := by simp [hw, IntOp.cmpi]
    rw [this, hl]
    exact EReal.coe_ne_bot _

/-- The layer's aggregated rows. -/
def rOut (z : FVec Ideal S10000x128 .f32) (ex : FVec Ideal S320000 .f32) (src dst : IVec S320000 32) : FVec Ideal S10000x128 .f32 :=
  Host.scatterAdd scatter_S10000x128_S320000x1_S320000x128_1_0_0_1 (broadcastInDim S10000x128 ![] bcast_S_S10000x128 (constant S_ .f32 0x00000000#32)) (rawCol dst) (mulf (broadcastInDim S320000x128 ![0, 1] bcast_S320000x1_S320000x128_0_1 (broadcastInDim S320000x1 ![0] bcast_S320000_S320000x1_0 (Host.divf ex (Host.gather gather_S10000_S320000x1_S320000_n_0_n_n_0_1_1 (Host.scatterAdd scatter_S10000_S320000x1_S320000_n_0_0_1 (broadcastInDim S10000 ![] bcast_S_S10000 (constant S_ .f32 0x00000000#32)) (rawCol dst) ex) (wrapCol dst))))) (Host.gather gather_S10000x128_S320000x1_S320000x128_1_0_n_n_0_1_1128 z (wrapCol src)))

theorem zeroRows_at (i : S10000x128.Idx) : broadcastInDim S10000x128 ![] bcast_S_S10000x128 (constant (F := Ideal) S_ .f32 0x00000000#32) i = (0 : EReal) := by
  pointwise []

theorem zeroVals_at (i : S10000.Idx) : broadcastInDim S10000 ![] bcast_S_S10000 (constant (F := Ideal) S_ .f32 0x00000000#32) i = (0 : EReal) := by
  pointwise []

theorem msg_at (x : FVec Ideal S320000 .f32) (y : FVec Ideal S320000x128 .f32) (e : Fin 320000) (j : Fin 128) :
    mulf (broadcastInDim S320000x128 ![0, 1] bcast_S320000x1_S320000x128_0_1 (broadcastInDim S320000x1 ![0] bcast_S320000_S320000x1_0 x)) y (ix2 e j)
      = (x (ix1 e) * y (ix2 e j) : EReal) := by
  pointwise []

theorem divf_at (x y : FVec Ideal S320000 .f32) (e : Fin 320000) : Host.divf x y (ix1 e) = Ideal.div (x (ix1 e)) (y (ix1 e)) := rfl

theorem rOut_at (z : FVec Ideal S10000x128 .f32) (ex : FVec Ideal S320000 .f32) (src dst : IVec S320000 32) (n : Fin 10000) (j : Fin 128) :
    rOut z ex src dst (ix2 n j) = (0 : EReal) + ∑ e ∈ into dst n,
      (Ideal.div (ex (ix1 e)) ((0 : EReal) + ∑ e' ∈ into dst (row (dst (ix1 e))), (ex (ix1 e') : EReal)) * z (ix2 (row (src (ix1 e))) j) : EReal) := by
  refine (addRows_at _ dst _ n j).trans ?_
  rw [zeroRows_at]
  refine congrArg ((0 : EReal) + ·) (Finset.sum_congr rfl fun e _ => ?_)
  rw [msg_at, divf_at, rows_at, vals_at, addVals_at, zeroVals_at]

/-- One layer of the reference over real features. -/
theorem ref_layer {src dst : IVec S320000 32} {z : FVec Ideal S10000x128 .f32} {zr : Fin 10000 → Fin 128 → ℝ} (hz : ∀ n k, z (ix2 n k) = (zr n k : EReal))
    {a : FVec Ideal S1x256 .f32} {ar : Fin 256 → ℝ} (ha : ∀ k, a (ix2 (0 : Fin 1) k) = (ar k : EReal))
    {ab : FVec Ideal S1 .f32} {abr : ℝ} (hab : ab (ix1 (0 : Fin 1)) = (abr : EReal)) (n : Fin 10000) (j : Fin 128) :
    rOut z (rEx (rL (rE z a ab src dst)) dst) src dst (ix2 n j) = (layer src dst zr ar abr n j : EReal) := by
  have hl : ∀ e, rL (rE z a ab src dst) (ix1 e) = (edge src dst zr ar abr e : EReal) := rL_real hz ha hab
  generalize rL (rE z a ab src dst) = l at hl
  rw [rOut_at]
  unfold layer
  rcases (into dst n).eq_empty_or_nonempty with h0 | hne
  · rw [h0]; simp [mean]
  obtain ⟨μ, hμ⟩ := rM_real l dst _ hl n hne
  have hex : ∀ e ∈ into dst n, rEx l dst (ix1 e) = ((Real.exp (edge src dst zr ar abr e - μ) : ℝ) : EReal) := fun e he => by
    rw [rEx_at, row_into he, hμ, hl, ← EReal.coe_sub, Ideal.exp_coe]
  have hp := sum_exp_pos (into dst n) hne fun e => edge src dst zr ar abr e - μ
  rw [sum_coe (into dst n) _ (fun e => (Real.exp (edge src dst zr ar abr e - μ) / ∑ e ∈ into dst n, Real.exp (edge src dst zr ar abr e - μ))
      * zr (row (src (ix1 e))) j) fun e he => ?_, zero_add, mean_shift]
  rw [row_into he, sum_coe (into dst n) _ _ hex, zero_add, hex e he, hz, div_real _ _ hp.ne', ← EReal.coe_mul]

end Cert.Proof

end
-- ==== Proof.KerLayer.lean ====
/- One layer of the kernel: where the projected features are real, what the next launch combines out of the edge
   pass's accumulators is each node's weighted mean of its incoming edges' rows. -/
module

public import proofs.«01_k».proof.Proof.KerHost
public import proofs.«01_k».proof.Proof.KerDefs
public import proofs.«01_k».proof.Proof.RefLayer

@[expose] public section

set_option maxRecDepth 16384

noncomputable section

namespace Cert.KernelIdeal.Edges

open Idealize.ShloMosaic
open Cert.KernelIdeal Cert.KernelIdeal.Gen Cert.KernelIdeal.Arr
open Cert.Proof (row into edge layer zReal wrapWord score leaky slope mean sum_coe gather1 gather2 scatter2)

theorem wrapCol_at (w : IVec S320000 32) (e : Fin 320000) : wrapCol w (ix2 e (0 : Fin 1)) = wrapWord (w (ix1 e)) := by
  pointwise [wrapCol, wrapWord]

theorem rawCol_at (w : IVec S320000 32) (e : Fin 320000) : rawCol w (ix2 e (0 : Fin 1)) = w (ix1 e) := by
  pointwise [rawCol]

/-- Rows gathered at wrapped indices. -/
theorem rows_at (z : FVec Ideal S10000x144 .f32) (w : IVec S320000 32) (e : Fin 320000) (j : Fin 144) :
    Host.gather gather_S10000x144_S320000x1_S320000x144_1_0_n_n_0_1_1144 z (wrapCol w) (ix2 e j) = z (ix2 (row (w (ix1 e))) j) := by
  refine (gather2 (by decide) _ z (wrapCol w) e j).trans ?_
  rw [wrapCol_at]; rfl

/-- Scalars gathered at wrapped indices. -/
theorem vals_at (x : FVec Ideal S10000 .f32) (w : IVec S320000 32) (e : Fin 320000) :
    Host.gather gather_S10000_S320000x1_S320000_n_0_n_n_0_1_1 x (wrapCol w) (ix1 e) = x (ix1 (row (w (ix1 e)))) := by
  refine (gather1 (by decide) _ x (wrapCol w) e).trans ?_
  rw [wrapCol_at]; rfl

/-- Rows added up at raw indices. -/
theorem addRows_at (x : FVec Ideal S10000x144 .f32) (w : IVec S320000 32) (u : FVec Ideal S320000x144 .f32) (n : Fin 10000) (j : Fin 144) :
    Host.scatterAdd scatter_S10000x144_S320000x1_S320000x144_1_0_0_1 x (rawCol w) u (ix2 n j)
      = (x (ix2 n j) : EReal) + ∑ e ∈ into w n, (u (ix2 e j) : EReal) := by
  refine (scatter2 _ x (rawCol w) u n j).trans ?_
  simp only [rawCol_at]; rfl

theorem col_at (s : FVec Ideal S10000x1 .f32) (n : Fin 10000) : shapeCast S10000 s shapeCasts_S10000x1_S10000 (ix1 n) = s (ix2 n (0 : Fin 1)) := by
  pointwise []

theorem kE_at (s d : FVec Ideal S10000x1 .f32) (src dst : IVec S320000 32) (e : Fin 320000) :
    kE s d src dst (ix1 e) = (s (ix2 (row (src (ix1 e))) (0 : Fin 1)) + d (ix2 (row (dst (ix1 e))) (0 : Fin 1)) : EReal) := by
  refine Eq.trans (b := (_ + _ : EReal)) rfl (congrArg₂ (fun a b : EReal => a + b) ?_ ?_)
  · rw [vals_at, col_at]
  · rw [vals_at, col_at]

theorem kW_at (x : FVec Ideal S320000 .f32) (e : Fin 320000) :
    kW x (ix1 e) = Ideal.exp (max (x (ix1 e) : EReal) (Ideal.ofBits .f32 0x3C23D70A#32 * x (ix1 e))) := by
  pointwise [kW]

/-- The first accumulator: the destination's weighted rows added up. -/
theorem kAcc_at0 (z : FVec Ideal S10000x144 .f32) (w : FVec Ideal S320000 .f32) (src dst : IVec S320000 32) (n : Fin 10000) (j : Fin 144) :
    kAcc z w src dst (ix3 (0 : Fin 2) n j) = (0 : EReal) + ∑ e ∈ into dst n, (w (ix1 e) * z (ix2 (row (src (ix1 e))) j) : EReal) := by
  have h : ∀ (A B : FVec Ideal S10000x144 .f32), concatenate S2x10000x144 0 [⟨S1x10000x144, broadcastInDim S1x10000x144 ![1, 2] bcast_S10000x144_S1x10000x144_1_2 A⟩,
      ⟨S1x10000x144, broadcastInDim S1x10000x144 ![1, 2] bcast_S10000x144_S1x10000x144_1_2 B⟩] concatenates_S1x10000x144_S1x10000x144_S2x10000x144_d0
      (ix3 (0 : Fin 2) n j) = A (ix2 n j) := fun A B => by pointwise []
  refine (h _ _).trans ((addRows_at _ dst _ n j).trans (congrArg₂ (fun a b : EReal => a + b) ?_ (Finset.sum_congr rfl fun e _ => ?_)))
  · pointwise []
  · refine Eq.trans (b := (_ * _ : EReal)) rfl (congrArg₂ (fun a b : EReal => a * b) ?_ (rows_at _ _ _ _))
    pointwise []

/-- The second accumulator: zeros. -/
theorem kAcc_at1 (z : FVec Ideal S10000x144 .f32) (w : FVec Ideal S320000 .f32) (src dst : IVec S320000 32) (n : Fin 10000) (j : Fin 144) :
    kAcc z w src dst (ix3 (1 : Fin 2) n j) = (0 : EReal) := by
  have h : ∀ (A B : FVec Ideal S10000x144 .f32), concatenate S2x10000x144 0 [⟨S1x10000x144, broadcastInDim S1x10000x144 ![1, 2] bcast_S10000x144_S1x10000x144_1_2 A⟩,
      ⟨S1x10000x144, broadcastInDim S1x10000x144 ![1, 2] bcast_S10000x144_S1x10000x144_1_2 B⟩] concatenates_S1x10000x144_S1x10000x144_S2x10000x144_d0
      (ix3 (1 : Fin 2) n j) = B (ix2 n j) := fun A B => by pointwise []
  refine (h _ _).trans ?_
  pointwise []

theorem kA_at0 (a : FVec Ideal S1x256 .f32) (k : Fin 128) : kA a (ix2 k (0 : Fin 2)) = a (ix2 (0 : Fin 1) (⟨k.val, by omega⟩ : Fin 256)) := by
  pointwise [kA]
theorem kA_at1 (a : FVec Ideal S1x256 .f32) (k : Fin 128) : kA a (ix2 k (1 : Fin 2)) = a (ix2 (0 : Fin 1) (⟨k.val + 128, by omega⟩ : Fin 256)) := by
  have h : (⟨k.val + 128, by omega⟩ : Fin 256) = ⟨128 + k.val, by omega⟩ := Fin.ext (Nat.add_comm _ _)
  rw [h]
  pointwise [kA]
theorem kB_at0 (ab : FVec Ideal S1 .f32) : kB ab (ix2 (0 : Fin 1) (0 : Fin 2)) = ab (ix1 (0 : Fin 1)) := by
  pointwise [kB]
theorem kB_at1 (ab : FVec Ideal S1 .f32) : kB ab (ix2 (0 : Fin 1) (1 : Fin 2)) = (0 : EReal) := by
  pointwise [kB]

/-- The projected features of real features are real. -/
theorem Z_real (X : FVec Ideal S10000x128 .f32) (W : FVec Ideal S128x128 .f32) (b : FVec Ideal S128 .f32) (h : Fin 10000 → Fin 128 → ℝ)
    (w : Fin 128 → Fin 128 → ℝ) (β : Fin 128 → ℝ) (hX : ∀ n k, X (ix2 n k) = (h n k : EReal)) (hW : ∀ j k, W (ix2 j k) = (w j k : EReal))
    (hb : ∀ j, b (ix1 j) = (β j : EReal)) (n : Fin 10000) (j : Fin 128) :
    Z X (transpose S128x128 [1, 0] W transposes_S128x128_S128x128_1_0) (shapeCast S1x128 b shapeCasts_S128_S1x128) (ix2 n j) = (zReal h w β n j : EReal) := by
  have e : Z X (transpose S128x128 [1, 0] W transposes_S128x128_S128x128_1_0) (shapeCast S1x128 b shapeCasts_S128_S1x128) (ix2 n j)
      = (∑ k : Fin 128, (X (ix2 n k) * W (ix2 j k) : EReal)) + b (ix1 j) := by pointwise [Z]
  rw [e, hb, sum_coe Finset.univ _ (fun k => h n k * w j k) fun k _ => by rw [hX, hW, ← EReal.coe_mul], ← EReal.coe_add]
  rfl

section Layer

variable {src dst : IVec S320000 32} {z : FVec Ideal S10000x128 .f32} {zr : Fin 10000 → Fin 128 → ℝ} (hz : ∀ n k, z (ix2 n k) = (zr n k : EReal))
  {a : FVec Ideal S1x256 .f32} {ar : Fin 256 → ℝ} (ha : ∀ k, a (ix2 (0 : Fin 1) k) = (ar k : EReal))
  {ab : FVec Ideal S1 .f32} {abr : ℝ} (hab : ab (ix1 (0 : Fin 1)) = (abr : EReal))

include hz ha hab in
theorem proj0_real (n : Fin 10000) : proj 0 z (kA a) (kB ab) (ix2 n (0 : Fin 1))
    = (((∑ k : Fin 128, zr n k * ar (⟨k.val, by omega⟩ : Fin 256)) + abr : ℝ) : EReal) := by
  unfold proj
  refine (congrArg₂ (fun a b : EReal => a + b) (sum_coe Finset.univ _ (fun k : Fin 128 => zr n k * ar (⟨k.val, by omega⟩ : Fin 256)) fun k _ => ?_) ((kB_at0 ab).trans hab)).trans
    (EReal.coe_add _ _).symm
  rw [kA_at0, ha, EReal.coe_mul]
  exact congrArg (fun t : EReal => t * _) (hz n k)

include hz ha in
theorem proj1_real (n : Fin 10000) : proj 1 z (kA a) (kB ab) (ix2 n (0 : Fin 1))
    = ((∑ k : Fin 128, zr n k * ar (⟨k.val + 128, by omega⟩ : Fin 256) : ℝ) : EReal) := by
  unfold proj
  refine (congrArg₂ (fun a b : EReal => a + b) (sum_coe Finset.univ _ (fun k : Fin 128 => zr n k * ar (⟨k.val + 128, by omega⟩ : Fin 256)) fun k _ => ?_) (kB_at1 ab)).trans
    (add_zero _)
  rw [kA_at1, ha, EReal.coe_mul]
  exact congrArg (fun t : EReal => t * _) (hz n k)

include hz ha hab in
/-- The weights are the exponentials of the scores. -/
theorem kW_real (e : Fin 320000) : kW (kE (proj 0 z (kA a) (kB ab)) (proj 1 z (kA a) (kB ab)) src dst) (ix1 e)
    = ((Real.exp (edge src dst zr ar abr e) : ℝ) : EReal) := by
  rw [kW_at, kE_at, proj0_real hz ha hab, proj1_real hz ha, ← EReal.coe_add, Cert.Proof.slope_eq, ← EReal.coe_mul, Cert.Proof.max_coe, Ideal.exp_coe]
  unfold edge score leaky
  rw [add_right_comm]

theorem aug_lo (n : Fin 10000) (j : Fin 128) : aug z (ix2 n (⟨j.val, by omega⟩ : Fin 144)) = z (ix2 n j) := by
  unfold aug
  rw [dif_pos (show ((ix2 n (⟨j.val, by omega⟩ : Fin 144) : S10000x144.Idx) 1).val < 128 from j.isLt)]
  rfl

theorem aug_one (n : Fin 10000) : aug z (ix2 n (⟨128, by omega⟩ : Fin 144)) = (1 : EReal) := by
  unfold aug
  rw [dif_neg (show ¬ ((ix2 n (⟨128, by omega⟩ : Fin 144) : S10000x144.Idx) 1).val < 128 from lt_irrefl 128)]
  exact if_pos rfl

include hz ha hab in
/-- One layer of the kernel over real features. -/
theorem ker_layer (n : Fin 10000) (j : Fin 128) :
    combine (kAcc (aug z) (kW (kE (proj 0 z (kA a) (kB ab)) (proj 1 z (kA a) (kB ab)) src dst)) src dst) (ix2 n j)
      = (layer src dst zr ar abr n j : EReal) := by
  have hw : ∀ e, kW (kE (proj 0 z (kA a) (kB ab)) (proj 1 z (kA a) (kB ab)) src dst) (ix1 e) = ((Real.exp (edge src dst zr ar abr e) : ℝ) : EReal) :=
    kW_real hz ha hab
  generalize kW (kE (proj 0 z (kA a) (kB ab)) (proj 1 z (kA a) (kB ab)) src dst) = w at hw
  have hn : kAcc (aug z) w src dst (ix3 (0 : Fin 2) n (⟨j.val, by omega⟩ : Fin 144)) + kAcc (aug z) w src dst (ix3 (1 : Fin 2) n (⟨j.val, by omega⟩ : Fin 144))
      = ((∑ e ∈ into dst n, Real.exp (edge src dst zr ar abr e) * zr (row (src (ix1 e))) j : ℝ) : EReal) := by
    rw [kAcc_at0, kAcc_at1, add_zero, zero_add]
    exact sum_coe _ _ _ fun e _ => by rw [hw, aug_lo, hz, EReal.coe_mul]
  have hd : kAcc (aug z) w src dst (ix3 (0 : Fin 2) n (⟨128, by omega⟩ : Fin 144)) + kAcc (aug z) w src dst (ix3 (1 : Fin 2) n (⟨128, by omega⟩ : Fin 144))
      = ((∑ e ∈ into dst n, Real.exp (edge src dst zr ar abr e) : ℝ) : EReal) := by
    rw [kAcc_at0, kAcc_at1, add_zero, zero_add]
    exact sum_coe _ _ _ fun e _ => by rw [hw, aug_one, mul_one]
  exact Cert.Proof.mean_quot (into dst n) (edge src dst zr ar abr) (fun e => zr (row (src (ix1 e))) j) _ _ hn hd

end Layer

/-- The positive part of a real. -/
theorem relu_real (h : FVec Ideal S10000x128 .f32) (r : Fin 10000 → Fin 128 → ℝ) (hh : ∀ n j, h (ix2 n j) = (r n j : EReal)) (n : Fin 10000) (j : Fin 128) :
    relu h (ix2 n j) = ((max (r n j) 0 : ℝ) : EReal) := by
  have : relu h (ix2 n j) = max (h (ix2 n j) : EReal) 0 := rfl
  rw [this, hh, ← EReal.coe_zero, Cert.Proof.max_coe]

end Cert.KernelIdeal.Edges

end
-- ==== Proof.KerArr0.lean ====
/- Kernel launch 0: each of its three output arrays as a function of the arrays it reads. -/
module

public import proofs.«01_k».proof.Proof.KerDefs

@[expose] public section

set_option maxRecDepth 16384

noncomputable section

namespace Cert.KernelIdeal.Arr

open Idealize.ShloMosaic Idealize.ShloMosaic.TcCoe Idealize.SL.Sem
open Idealize.ShloMosaic.Pipeline (Dat)
open Cert.KernelIdeal Cert.KernelIdeal.Gen
open Idealize.ShloMosaic.ValueIdx hiding ix0 ix1 ix2 ix3 ix4 ix5

/-- Every window's block index at a grid point. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

variable (V : (c : Dev nD) → (b : Ref sig .tc) → Buf (Elt Ideal) ((c : Thread nD τ).loc b))

/-- The launch's projected features. -/
def Z0 (c : Dev nD) : FVec Ideal S10000x128 .f32 := Z (V c main_arg1) (V c main_v4) (V c main_v16)

/-- Where the launch's first output block lies in its array. -/
theorem emb0_5 (t : Fin cfg0.N) (y) :
    ((((cfg0.win 5).blk t).view.emb y) 1).val = (y 1).val ∧ ((((cfg0.win 5).blk t).view.emb y) 0).val = t.val * 400 + (y 0).val := by
  constructor <;> blk_point [idx0 t]

/-- The features of a block are the array's, at the block's place. -/
theorem pointZ0 (c : Dev nD) (t : Fin cfg0.N) (y : S400x128.Idx) (i : S10000x128.Idx) (h0 : (i 0).val = t.val * 400 + (y 0).val)
    (h1 : (i 1).val = (y 1).val) : k0_pay1 (iblk0 V c 0 t) (iblk0 V c 1 t) (iblk0 V c 2 t) y = Z0 V c i := by
  pointwise [k0_pay1, Z0, Z]
  blk_point [iblk0, idx0 t]

theorem point0_5 (c : Dev nD) (t : Fin cfg0.N) (y) :
    k0_pay3 (iblk0 V c 0 t) (iblk0 V c 1 t) (iblk0 V c 2 t) y = aug (Z0 V c) (((cfg0.win 5).blk t).view.emb y) := by
  obtain ⟨h1, h0⟩ := emb0_5 t y
  refine (lanes0 _ _ _ y).trans ?_
  unfold aug
  by_cases h : (y 1).val < 128
  · rw [dif_pos h, dif_pos (h1 ▸ h)]
    exact pointZ0 V c t _ _ h0 h1
  · rw [dif_neg h, dif_neg (h1 ▸ h), h1]

/-- The array output window 5 of the launch leaves. -/
theorem final0_5 (c : Dev nD) : (dat0 V c).arrAt 5 cfg0.N = aug (Z0 V c) := by
  refine (dat0 V c).arrAt_eq_of_covers 5 _ (by decide +kernel) fun t _ y => ?_
  blk_simp
  rw [after0_5]; frame_out
  exact point0_5 V c t y

theorem point0_6 (c : Dev nD) (t : Fin cfg0.N) (y) :
    k0_pay4 (iblk0 V c 0 t) (iblk0 V c 1 t) (iblk0 V c 2 t) (iblk0 V c 3 t) (iblk0 V c 4 t) y = proj 0 (Z0 V c) (V c main_v11) (V c main_v15) (((cfg0.win 6).blk t).view.emb y) := by
  pointwise [k0_pay4, k0_pay2, k0_pay1, proj, Z0, Z]
  blk_point [iblk0, idx0 t]

/-- The array output window 6 of the launch leaves. -/
theorem final0_6 (c : Dev nD) : (dat0 V c).arrAt 6 cfg0.N = proj 0 (Z0 V c) (V c main_v11) (V c main_v15) := by
  refine (dat0 V c).arrAt_eq_of_covers 6 _ (by decide +kernel) fun t _ y => ?_
  blk_simp
  rw [after0_6]; frame_out
  exact point0_6 V c t y

theorem point0_7 (c : Dev nD) (t : Fin cfg0.N) (y) :
    k0_pay5 (iblk0 V c 0 t) (iblk0 V c 1 t) (iblk0 V c 2 t) (iblk0 V c 3 t) (iblk0 V c 4 t) y = proj 1 (Z0 V c) (V c main_v11) (V c main_v15) (((cfg0.win 7).blk t).view.emb y) := by
  pointwise [k0_pay5, k0_pay2, k0_pay1, proj, Z0, Z]
  blk_point [iblk0, idx0 t]

/-- The array output window 7 of the launch leaves. -/
theorem final0_7 (c : Dev nD) : (dat0 V c).arrAt 7 cfg0.N = proj 1 (Z0 V c) (V c main_v11) (V c main_v15) := by
  refine (dat0 V c).arrAt_eq_of_covers 7 _ (by decide +kernel) fun t _ y => ?_
  blk_simp
  rw [after0_7]; frame_out
  exact point0_7 V c t y

end Cert.KernelIdeal.Arr

end
-- ==== Proof.KerArr1.lean ====
/- Kernel launch 1: each of its three output arrays as a function of the arrays it reads. -/
module

public import proofs.«01_k».proof.Proof.KerDefs

@[expose] public section

set_option maxRecDepth 16384

noncomputable section

namespace Cert.KernelIdeal.Arr

open Idealize.ShloMosaic Idealize.ShloMosaic.TcCoe Idealize.SL.Sem
open Idealize.ShloMosaic.Pipeline (Dat)
open Cert.KernelIdeal Cert.KernelIdeal.Gen
open Idealize.ShloMosaic.ValueIdx hiding ix0 ix1 ix2 ix3 ix4 ix5

/-- Every window's block index at a grid point. -/
theorem idx1 : ∀ t : Fin cfg1.N, win1_0.index t = ![0, t.val, 0] ∧ win1_1.index t = ![0, 0] ∧ win1_2.index t = ![0, 0]
    ∧ win1_3.index t = ![0, 0] ∧ win1_4.index t = ![0, 0] ∧ win1_5.index t = ![t.val, 0] ∧ win1_6.index t = ![t.val, 0]
    ∧ win1_7.index t = ![t.val, 0] :=
  (by decide +kernel : ∀ t : Fin grid1.N, _)

variable (V : (c : Dev nD) → (b : Ref sig .tc) → Buf (Elt Ideal) ((c : Thread nD τ).loc b))

/-- The launch's projected features. -/
def Z1 (c : Dev nD) : FVec Ideal S10000x128 .f32 := Z (relu (combine (V c main_v55))) (V c main_v56) (V c main_v68)

/-- Where the launch's first output block lies in its array. -/
theorem emb1_5 (t : Fin cfg1.N) (y) :
    ((((cfg1.win 5).blk t).view.emb y) 1).val = (y 1).val ∧ ((((cfg1.win 5).blk t).view.emb y) 0).val = t.val * 400 + (y 0).val := by
  constructor <;> blk_point [idx1 t]

/-- The features of a block are the array's, at the block's place. -/
theorem pointZ1 (c : Dev nD) (t : Fin cfg1.N) (y : S400x128.Idx) (i : S10000x128.Idx) (h0 : (i 0).val = t.val * 400 + (y 0).val)
    (h1 : (i 1).val = (y 1).val) : k1_pay4 (iblk1 V c 0 t) (iblk1 V c 1 t) (iblk1 V c 2 t) y = Z1 V c i := by
  pointwise [k1_pay4, Z1, Z, relu, combine]
  blk_point [iblk1, idx1 t]

theorem point1_5 (c : Dev nD) (t : Fin cfg1.N) (y) :
    k1_pay1 (k1_pay4 (iblk1 V c 0 t) (iblk1 V c 1 t) (iblk1 V c 2 t)) k1_pay6 (Scalar.ofBits .f32 0x00000000#32) k1_pay7 y = aug (Z1 V c) (((cfg1.win 5).blk t).view.emb y) := by
  obtain ⟨h1, h0⟩ := emb1_5 t y
  refine (lanes1 _ y).trans ?_
  unfold aug
  by_cases h : (y 1).val < 128
  · rw [dif_pos h, dif_pos (h1 ▸ h)]
    exact pointZ1 V c t _ _ h0 h1
  · rw [dif_neg h, dif_neg (h1 ▸ h), h1]

/-- The array output window 5 of the launch leaves. -/
theorem final1_5 (c : Dev nD) : (dat1 V c).arrAt 5 cfg1.N = aug (Z1 V c) := by
  refine (dat1 V c).arrAt_eq_of_covers 5 _ (by decide +kernel) fun t _ y => ?_
  blk_simp
  rw [after1_5]; frame_out
  exact point1_5 V c t y

/-- The projections of a block, its loads being of whole blocks. -/
theorem pay8_1 (x0 : Vec Ideal S2x400x144 .f32) (x1 : Vec Ideal S128x128 .f32) (x2 : Vec Ideal S1x128 .f32) (x3 : Vec Ideal S128x2 .f32)
    (x4 : Vec Ideal S1x2 .f32) : k1_pay8 x0 x1 x2 x3 x4 = k1_pay5 x0 x1 x2 x3 x4 := by
  unfold k1_pay8 r1_0 r1_1 r1_2 r1_3 r1_4
  simp (disch := decide) only [View.ld_unit_lit']

/-- The attention vectors' block is the whole array. -/
theorem blkA1 (c : Dev nD) (t : Fin cfg1.N) (x : Fin 128) (q : Fin 2) : iblk1 V c 3 t (ix2 x q) = V c main_v63 (ix2 x q) := by
  blk_point [iblk1, idx1 t]

/-- The attention biases' block is the whole array. -/
theorem blkB1 (c : Dev nD) (t : Fin cfg1.N) (q : Fin 2) : iblk1 V c 4 t (ix2 (0 : Fin 1) q) = V c main_v67 (ix2 (0 : Fin 1) q) := by
  blk_point [iblk1, idx1 t]

/-- Where the block of output window 6 lies in its array. -/
theorem emb1_6 (t : Fin cfg1.N) (y) : ((((cfg1.win 6).blk t).view.emb y) 0).val = t.val * 400 + (y 0).val := by
  blk_point [idx1 t]

theorem pay1_6 (acc : Vec Ideal S2x400x144 .f32) (w : Vec Ideal S128x128 .f32) (b : Vec Ideal S1x128 .f32) (asd : Vec Ideal S128x2 .f32)
    (abv : Vec Ideal S1x2 .f32) (y : S400x1.Idx) : k1_pay2 (k1_pay5 acc w b asd abv) y
      = (∑ x : Fin 128, k1_pay4 acc w b (ix2 (y 0) x) * asd (ix2 x (⟨0, by omega⟩ : Fin 2))) + abv (ix2 (0 : Fin 1) (⟨0, by omega⟩ : Fin 2)) := by
  pointwise [k1_pay2, k1_pay5]

theorem point1_6 (c : Dev nD) (t : Fin cfg1.N) (y) :
    k1_pay2 (k1_pay5 (iblk1 V c 0 t) (iblk1 V c 1 t) (iblk1 V c 2 t) (iblk1 V c 3 t) (iblk1 V c 4 t)) y = proj 0 (Z1 V c) (V c main_v63) (V c main_v67) (((cfg1.win 6).blk t).view.emb y) := by
  refine (pay1_6 _ _ _ _ _ y).trans ?_
  unfold proj
  refine congrArg₂ (· + ·) (Finset.sum_congr rfl fun x _ => congrArg₂ (· * ·) ?_ ?_) ?_
  · exact pointZ1 V c t _ _ (emb1_6 t y) rfl
  · exact blkA1 V c t x _
  · exact blkB1 V c t _

/-- The array output window 6 of the launch leaves. -/
theorem final1_6 (c : Dev nD) : (dat1 V c).arrAt 6 cfg1.N = proj 0 (Z1 V c) (V c main_v63) (V c main_v67) := by
  refine (dat1 V c).arrAt_eq_of_covers 6 _ (by decide +kernel) fun t _ y => ?_
  blk_simp
  rw [after1_6]; frame_out
  rw [pay8_1]
  exact point1_6 V c t y

/-- Where the block of output window 7 lies in its array. -/
theorem emb1_7 (t : Fin cfg1.N) (y) : ((((cfg1.win 7).blk t).view.emb y) 0).val = t.val * 400 + (y 0).val := by
  blk_point [idx1 t]

theorem pay1_7 (acc : Vec Ideal S2x400x144 .f32) (w : Vec Ideal S128x128 .f32) (b : Vec Ideal S1x128 .f32) (asd : Vec Ideal S128x2 .f32)
    (abv : Vec Ideal S1x2 .f32) (y : S400x1.Idx) : k1_pay3 (k1_pay5 acc w b asd abv) y
      = (∑ x : Fin 128, k1_pay4 acc w b (ix2 (y 0) x) * asd (ix2 x (⟨1, by omega⟩ : Fin 2))) + abv (ix2 (0 : Fin 1) (⟨1, by omega⟩ : Fin 2)) := by
  pointwise [k1_pay3, k1_pay5]

theorem point1_7 (c : Dev nD) (t : Fin cfg1.N) (y) :
    k1_pay3 (k1_pay5 (iblk1 V c 0 t) (iblk1 V c 1 t) (iblk1 V c 2 t) (iblk1 V c 3 t) (iblk1 V c 4 t)) y = proj 1 (Z1 V c) (V c main_v63) (V c main_v67) (((cfg1.win 7).blk t).view.emb y) := by
  refine (pay1_7 _ _ _ _ _ y).trans ?_
  unfold proj
  refine congrArg₂ (· + ·) (Finset.sum_congr rfl fun x _ => congrArg₂ (· * ·) ?_ ?_) ?_
  · exact pointZ1 V c t _ _ (emb1_7 t y) rfl
  · exact blkA1 V c t x _
  · exact blkB1 V c t _

/-- The array output window 7 of the launch leaves. -/
theorem final1_7 (c : Dev nD) : (dat1 V c).arrAt 7 cfg1.N = proj 1 (Z1 V c) (V c main_v63) (V c main_v67) := by
  refine (dat1 V c).arrAt_eq_of_covers 7 _ (by decide +kernel) fun t _ y => ?_
  blk_simp
  rw [after1_7]; frame_out
  rw [pay8_1]
  exact point1_7 V c t y

end Cert.KernelIdeal.Arr

end
-- ==== Proof.KerArr2.lean ====
/- Kernel launch 2: each of its three output arrays as a function of the arrays it reads. -/
module

public import proofs.«01_k».proof.Proof.KerDefs

@[expose] public section

set_option maxRecDepth 16384

noncomputable section

namespace Cert.KernelIdeal.Arr

open Idealize.ShloMosaic Idealize.ShloMosaic.TcCoe Idealize.SL.Sem
open Idealize.ShloMosaic.Pipeline (Dat)
open Cert.KernelIdeal Cert.KernelIdeal.Gen
open Idealize.ShloMosaic.ValueIdx hiding ix0 ix1 ix2 ix3 ix4 ix5

/-- Every window's block index at a grid point. -/
theorem idx2 : ∀ t : Fin cfg2.N, win2_0.index t = ![0, t.val, 0] ∧ win2_1.index t = ![0, 0] ∧ win2_2.index t = ![0, 0]
    ∧ win2_3.index t = ![0, 0] ∧ win2_4.index t = ![0, 0] ∧ win2_5.index t = ![t.val, 0] ∧ win2_6.index t = ![t.val, 0]
    ∧ win2_7.index t = ![t.val, 0] :=
  (by decide +kernel : ∀ t : Fin grid2.N, _)

variable (V : (c : Dev nD) → (b : Ref sig .tc) → Buf (Elt Ideal) ((c : Thread nD τ).loc b))

/-- The launch's projected features. -/
def Z2 (c : Dev nD) : FVec Ideal S10000x128 .f32 := Z (relu (combine (V c main_v107))) (V c main_v108) (V c main_v120)

/-- Where the launch's first output block lies in its array. -/
theorem emb2_5 (t : Fin cfg2.N) (y) :
    ((((cfg2.win 5).blk t).view.emb y) 1).val = (y 1).val ∧ ((((cfg2.win 5).blk t).view.emb y) 0).val = t.val * 400 + (y 0).val := by
  constructor <;> blk_point [idx2 t]

/-- The features of a block are the array's, at the block's place. -/
theorem pointZ2 (c : Dev nD) (t : Fin cfg2.N) (y : S400x128.Idx) (i : S10000x128.Idx) (h0 : (i 0).val = t.val * 400 + (y 0).val)
    (h1 : (i 1).val = (y 1).val) : k2_pay4 (iblk2 V c 0 t) (iblk2 V c 1 t) (iblk2 V c 2 t) y = Z2 V c i := by
  pointwise [k2_pay4, Z2, Z, relu, combine]
  blk_point [iblk2, idx2 t]

theorem point2_5 (c : Dev nD) (t : Fin cfg2.N) (y) :
    k2_pay1 (k2_pay4 (iblk2 V c 0 t) (iblk2 V c 1 t) (iblk2 V c 2 t)) k2_pay6 (Scalar.ofBits .f32 0x00000000#32) k2_pay7 y = aug (Z2 V c) (((cfg2.win 5).blk t).view.emb y) := by
  obtain ⟨h1, h0⟩ := emb2_5 t y
  refine (lanes1 _ y).trans ?_
  unfold aug
  by_cases h : (y 1).val < 128
  · rw [dif_pos h, dif_pos (h1 ▸ h)]
    exact pointZ2 V c t _ _ h0 h1
  · rw [dif_neg h, dif_neg (h1 ▸ h), h1]

/-- The array output window 5 of the launch leaves. -/
theorem final2_5 (c : Dev nD) : (dat2 V c).arrAt 5 cfg2.N = aug (Z2 V c) := by
  refine (dat2 V c).arrAt_eq_of_covers 5 _ (by decide +kernel) fun t _ y => ?_
  blk_simp
  rw [after2_5]; frame_out
  exact point2_5 V c t y

/-- The projections of a block, its loads being of whole blocks. -/
theorem pay8_2 (x0 : Vec Ideal S2x400x144 .f32) (x1 : Vec Ideal S128x128 .f32) (x2 : Vec Ideal S1x128 .f32) (x3 : Vec Ideal S128x2 .f32)
    (x4 : Vec Ideal S1x2 .f32) : k2_pay8 x0 x1 x2 x3 x4 = k2_pay5 x0 x1 x2 x3 x4 := by
  unfold k2_pay8 r2_0 r2_1 r2_2 r2_3 r2_4
  simp (disch := decide) only [View.ld_unit_lit']

/-- The attention vectors' block is the whole array. -/
theorem blkA2 (c : Dev nD) (t : Fin cfg2.N) (x : Fin 128) (q : Fin 2) : iblk2 V c 3 t (ix2 x q) = V c main_v115 (ix2 x q) := by
  blk_point [iblk2, idx2 t]

/-- The attention biases' block is the whole array. -/
theorem blkB2 (c : Dev nD) (t : Fin cfg2.N) (q : Fin 2) : iblk2 V c 4 t (ix2 (0 : Fin 1) q) = V c main_v119 (ix2 (0 : Fin 1) q) := by
  blk_point [iblk2, idx2 t]

/-- Where the block of output window 6 lies in its array. -/
theorem emb2_6 (t : Fin cfg2.N) (y) : ((((cfg2.win 6).blk t).view.emb y) 0).val = t.val * 400 + (y 0).val := by
  blk_point [idx2 t]

theorem pay2_6 (acc : Vec Ideal S2x400x144 .f32) (w : Vec Ideal S128x128 .f32) (b : Vec Ideal S1x128 .f32) (asd : Vec Ideal S128x2 .f32)
    (abv : Vec Ideal S1x2 .f32) (y : S400x1.Idx) : k2_pay2 (k2_pay5 acc w b asd abv) y
      = (∑ x : Fin 128, k2_pay4 acc w b (ix2 (y 0) x) * asd (ix2 x (⟨0, by omega⟩ : Fin 2))) + abv (ix2 (0 : Fin 1) (⟨0, by omega⟩ : Fin 2)) := by
  pointwise [k2_pay2, k2_pay5]

theorem point2_6 (c : Dev nD) (t : Fin cfg2.N) (y) :
    k2_pay2 (k2_pay5 (iblk2 V c 0 t) (iblk2 V c 1 t) (iblk2 V c 2 t) (iblk2 V c 3 t) (iblk2 V c 4 t)) y = proj 0 (Z2 V c) (V c main_v115) (V c main_v119) (((cfg2.win 6).blk t).view.emb y) := by
  refine (pay2_6 _ _ _ _ _ y).trans ?_
  unfold proj
  refine congrArg₂ (· + ·) (Finset.sum_congr rfl fun x _ => congrArg₂ (· * ·) ?_ ?_) ?_
  · exact pointZ2 V c t _ _ (emb2_6 t y) rfl
  · exact blkA2 V c t x _
  · exact blkB2 V c t _

/-- The array output window 6 of the launch leaves. -/
theorem final2_6 (c : Dev nD) : (dat2 V c).arrAt 6 cfg2.N = proj 0 (Z2 V c) (V c main_v115) (V c main_v119) := by
  refine (dat2 V c).arrAt_eq_of_covers 6 _ (by decide +kernel) fun t _ y => ?_
  blk_simp
  rw [after2_6]; frame_out
  rw [pay8_2]
  exact point2_6 V c t y

/-- Where the block of output window 7 lies in its array. -/
theorem emb2_7 (t : Fin cfg2.N) (y) : ((((cfg2.win 7).blk t).view.emb y) 0).val = t.val * 400 + (y 0).val := by
  blk_point [idx2 t]

theorem pay2_7 (acc : Vec Ideal S2x400x144 .f32) (w : Vec Ideal S128x128 .f32) (b : Vec Ideal S1x128 .f32) (asd : Vec Ideal S128x2 .f32)
    (abv : Vec Ideal S1x2 .f32) (y : S400x1.Idx) : k2_pay3 (k2_pay5 acc w b asd abv) y
      = (∑ x : Fin 128, k2_pay4 acc w b (ix2 (y 0) x) * asd (ix2 x (⟨1, by omega⟩ : Fin 2))) + abv (ix2 (0 : Fin 1) (⟨1, by omega⟩ : Fin 2)) := by
  pointwise [k2_pay3, k2_pay5]

theorem point2_7 (c : Dev nD) (t : Fin cfg2.N) (y) :
    k2_pay3 (k2_pay5 (iblk2 V c 0 t) (iblk2 V c 1 t) (iblk2 V c 2 t) (iblk2 V c 3 t) (iblk2 V c 4 t)) y = proj 1 (Z2 V c) (V c main_v115) (V c main_v119) (((cfg2.win 7).blk t).view.emb y) := by
  refine (pay2_7 _ _ _ _ _ y).trans ?_
  unfold proj
  refine congrArg₂ (· + ·) (Finset.sum_congr rfl fun x _ => congrArg₂ (· * ·) ?_ ?_) ?_
  · exact pointZ2 V c t _ _ (emb2_7 t y) rfl
  · exact blkA2 V c t x _
  · exact blkB2 V c t _

/-- The array output window 7 of the launch leaves. -/
theorem final2_7 (c : Dev nD) : (dat2 V c).arrAt 7 cfg2.N = proj 1 (Z2 V c) (V c main_v115) (V c main_v119) := by
  refine (dat2 V c).arrAt_eq_of_covers 7 _ (by decide +kernel) fun t _ y => ?_
  blk_simp
  rw [after2_7]; frame_out
  rw [pay8_2]
  exact point2_7 V c t y

end Cert.KernelIdeal.Arr

end
-- ==== Proof.KerArr3.lean ====
/- The last kernel launch: its output array as a function of the array it reads. -/
module

public import proofs.«01_k».proof.Proof.KerDefs

@[expose] public section

set_option maxRecDepth 16384

noncomputable section

namespace Cert.KernelIdeal.Arr

open Idealize.ShloMosaic Idealize.ShloMosaic.TcCoe Idealize.SL.Sem
open Idealize.ShloMosaic.Pipeline (Dat)
open Cert.KernelIdeal Cert.KernelIdeal.Gen
open Idealize.ShloMosaic.ValueIdx hiding ix0 ix1 ix2 ix3 ix4 ix5

/-- Every window's block index at a grid point. -/
theorem idx3 : ∀ t : Fin cfg3.N, win3_0.index t = ![0, t.val, 0] ∧ win3_1.index t = ![t.val, 0] :=
  (by decide +kernel : ∀ t : Fin grid3.N, _)

variable (V : (c : Dev nD) → (b : Ref sig .tc) → Buf (Elt Ideal) ((c : Thread nD τ).loc b))

theorem point3_1 (c : Dev nD) (t : Fin cfg3.N) (y) :
    k3_pay1 (iblk3 V c 0 t) y = combine (V c main_v159) (((cfg3.win 1).blk t).view.emb y) := by
  pointwise [k3_pay1, combine]
  blk_point [iblk3, idx3 t]

/-- The array the launch leaves. -/
theorem final3_1 (c : Dev nD) : (dat3 V c).arrAt 1 cfg3.N = combine (V c main_v159) := by
  refine (dat3 V c).arrAt_eq_of_covers 1 _ (by decide +kernel) fun t _ y => ?_
  blk_simp
  rw [after3_1]; frame_out
  exact point3_1 V c t y

end Cert.KernelIdeal.Arr

end
-- ==== Proof.Net.lean ====
/- The three layers in reals. -/
module

public import proofs.«01_k».proof.Proof.RefLayer

@[expose] public section

noncomputable section

namespace Cert.Proof

open Idealize.ShloMosaic
open Cert.ReferenceIdeal

/-- The float arguments, in reals. -/
structure Params where
  x : Fin 10000 → Fin 128 → ℝ
  w1 : Fin 128 → Fin 128 → ℝ
  b1 : Fin 128 → ℝ
  a1 : Fin 256 → ℝ
  c1 : ℝ
  w2 : Fin 128 → Fin 128 → ℝ
  b2 : Fin 128 → ℝ
  a2 : Fin 256 → ℝ
  c2 : ℝ
  w3 : Fin 128 → Fin 128 → ℝ
  b3 : Fin 128 → ℝ
  a3 : Fin 256 → ℝ
  c3 : ℝ

/-- The first layer's projected features. -/
def z1 (p : Params) : Fin 10000 → Fin 128 → ℝ := zReal p.x p.w1 p.b1

variable (src dst : IVec S320000 32) (p : Params)

/-- The first layer's result, its positive part. -/
def h1r (n : Fin 10000) (j : Fin 128) : ℝ := max (layer src dst (z1 p) p.a1 p.c1 n j) 0

/-- The second layer's projected features. -/
def z2 : Fin 10000 → Fin 128 → ℝ := zReal (h1r src dst p) p.w2 p.b2

/-- The second layer's result, its positive part. -/
def h2r (n : Fin 10000) (j : Fin 128) : ℝ := max (layer src dst (z2 src dst p) p.a2 p.c2 n j) 0

/-- The third layer's projected features. -/
def z3 : Fin 10000 → Fin 128 → ℝ := zReal (h2r src dst p) p.w3 p.b3

/-- The whole network's result. -/
def net (n : Fin 10000) (j : Fin 128) : ℝ := layer src dst (z3 src dst p) p.a3 p.c3 n j

end Cert.Proof

end
-- ==== Proof.KerValue.lean ====
/- What the kernel leaves in the result array over real arguments: the network's result. -/
module

public import proofs.«01_k».proof.Proof.KerLayer
public import proofs.«01_k».proof.Proof.KerArr0
public import proofs.«01_k».proof.Proof.KerArr1
public import proofs.«01_k».proof.Proof.KerArr2
public import proofs.«01_k».proof.Proof.KerArr3
public import proofs.«01_k».proof.Proof.Net

@[expose] public section

set_option maxRecDepth 16384

noncomputable section

namespace Cert.KernelIdeal.Edges

open Idealize.ShloMosaic Idealize.ShloMosaic.TcCoe
open Cert.KernelIdeal Cert.KernelIdeal.Gen Cert.KernelIdeal.Arr
open Cert.Proof (Params net layer z1 z2 z3 h1r h2r)

variable (m : (ℓ : Loc nD τ sig) → Buf (Elt Ideal) ℓ) (ρ : Dev nD → PrngReg) (c : Dev nD)

/-! The edges' endpoints stay put through the whole run. -/

theorem at1_v1 : W1 m ρ c (Proc.devRef .tc main_v1) = kSrc (m ((c : Thread nD τ).loc main_arg2)) := ops0_v1 (W0 m ρ c)
theorem at2_v1 : W2 m ρ c (Proc.devRef .tc main_v1) = kSrc (m ((c : Thread nD τ).loc main_arg2)) := (W2_of m ρ c main_v1 (by decide +kernel)).trans (at1_v1 m ρ c)
theorem at3_v1 : W3 m ρ c (Proc.devRef .tc main_v1) = kSrc (m ((c : Thread nD τ).loc main_arg2)) := (W3_of m ρ c main_v1 (by decide +kernel)).trans (at2_v1 m ρ c)
theorem at4_v1 : W4 m ρ c (Proc.devRef .tc main_v1) = kSrc (m ((c : Thread nD τ).loc main_arg2)) := (W4_of m ρ c main_v1 (by decide +kernel)).trans (at3_v1 m ρ c)
theorem at5_v1 : W5 m ρ c (Proc.devRef .tc main_v1) = kSrc (m ((c : Thread nD τ).loc main_arg2)) := (W5_of m ρ c main_v1 (by decide +kernel)).trans (at4_v1 m ρ c)
theorem at6_v1 : W6 m ρ c (Proc.devRef .tc main_v1) = kSrc (m ((c : Thread nD τ).loc main_arg2)) := (W6_of m ρ c main_v1 (by decide +kernel)).trans (at5_v1 m ρ c)
theorem at1_v3 : W1 m ρ c (Proc.devRef .tc main_v3) = kDst (m ((c : Thread nD τ).loc main_arg2)) := ops0_v3 (W0 m ρ c)
theorem at2_v3 : W2 m ρ c (Proc.devRef .tc main_v3) = kDst (m ((c : Thread nD τ).loc main_arg2)) := (W2_of m ρ c main_v3 (by decide +kernel)).trans (at1_v3 m ρ c)
theorem at3_v3 : W3 m ρ c (Proc.devRef .tc main_v3) = kDst (m ((c : Thread nD τ).loc main_arg2)) := (W3_of m ρ c main_v3 (by decide +kernel)).trans (at2_v3 m ρ c)
theorem at4_v3 : W4 m ρ c (Proc.devRef .tc main_v3) = kDst (m ((c : Thread nD τ).loc main_arg2)) := (W4_of m ρ c main_v3 (by decide +kernel)).trans (at3_v3 m ρ c)
theorem at5_v3 : W5 m ρ c (Proc.devRef .tc main_v3) = kDst (m ((c : Thread nD τ).loc main_arg2)) := (W5_of m ρ c main_v3 (by decide +kernel)).trans (at4_v3 m ρ c)
theorem at6_v3 : W6 m ρ c (Proc.devRef .tc main_v3) = kDst (m ((c : Thread nD τ).loc main_arg2)) := (W6_of m ρ c main_v3 (by decide +kernel)).trans (at5_v3 m ρ c)

/-! Layer 1: what its launch reads and writes, and what the edge pass makes of it. -/

theorem in0_w : V1 m ρ c main_v4 = transpose S128x128 [1, 0] (m ((c : Thread nD τ).loc main_arg3)) transposes_S128x128_S128x128_1_0 :=
  (ops0_v4 (W0 m ρ c)).trans (congrArg (fun t => transpose S128x128 [1, 0] t transposes_S128x128_S128x128_1_0) (W0_args m ρ c main_arg3 (by simp [argRefs])))
theorem in0_b : V1 m ρ c main_v16 = shapeCast S1x128 (m ((c : Thread nD τ).loc main_arg4)) shapeCasts_S128_S1x128 :=
  (ops0_v16 (W0 m ρ c)).trans (congrArg (fun t => shapeCast S1x128 t shapeCasts_S128_S1x128) (W0_args m ρ c main_arg4 (by simp [argRefs])))
theorem in0_a : V1 m ρ c main_v11 = kA (m ((c : Thread nD τ).loc main_arg5)) :=
  (ops0_v11 (W0 m ρ c)).trans (congrArg kA (W0_args m ρ c main_arg5 (by simp [argRefs])))
theorem in0_ab : V1 m ρ c main_v15 = kB (m ((c : Thread nD τ).loc main_arg6)) :=
  (ops0_v15 (W0 m ρ c)).trans (congrArg kB (W0_args m ρ c main_arg6 (by simp [argRefs])))

theorem feat0 : Z0 (V1 m ρ) c = Z (m ((c : Thread nD τ).loc main_arg1)) (transpose S128x128 [1, 0] (m ((c : Thread nD τ).loc main_arg3)) transposes_S128x128_S128x128_1_0) (shapeCast S1x128 (m ((c : Thread nD τ).loc main_arg4)) shapeCasts_S128_S1x128) := by
  unfold Z0
  rw [in0_w m ρ c, in0_b m ρ c, show V1 m ρ c main_arg1 = m ((c : Thread nD τ).loc main_arg1) from W1_args m ρ c main_arg1 (by simp [argRefs])]

theorem aug0 : W2 m ρ c (Proc.devRef .tc main_v17_0) = aug (Z0 (V1 m ρ) c) :=
  (W2_arr m ρ c 5).trans (final0_5 (V1 m ρ) c)
theorem src0 : W2 m ρ c (Proc.devRef .tc main_v17_1) = proj 0 (Z0 (V1 m ρ) c) (kA (m ((c : Thread nD τ).loc main_arg5))) (kB (m ((c : Thread nD τ).loc main_arg6))) := by
  refine ((W2_arr m ρ c 6).trans (final0_6 (V1 m ρ) c)).trans ?_
  rw [in0_a m ρ c, in0_ab m ρ c]
theorem dst0 : W2 m ρ c (Proc.devRef .tc main_v17_2) = proj 1 (Z0 (V1 m ρ) c) (kA (m ((c : Thread nD τ).loc main_arg5))) (kB (m ((c : Thread nD τ).loc main_arg6))) := by
  refine ((W2_arr m ρ c 7).trans (final0_7 (V1 m ρ) c)).trans ?_
  rw [in0_a m ρ c, in0_ab m ρ c]

theorem acc0 : W3 m ρ c (Proc.devRef .tc main_v55) = kAcc (aug (Z0 (V1 m ρ) c))
    (kW (kE (proj 0 (Z0 (V1 m ρ) c) (kA (m ((c : Thread nD τ).loc main_arg5))) (kB (m ((c : Thread nD τ).loc main_arg6))))
      (proj 1 (Z0 (V1 m ρ) c) (kA (m ((c : Thread nD τ).loc main_arg5))) (kB (m ((c : Thread nD τ).loc main_arg6))))
      (kSrc (m ((c : Thread nD τ).loc main_arg2))) (kDst (m ((c : Thread nD τ).loc main_arg2)))))
    (kSrc (m ((c : Thread nD τ).loc main_arg2))) (kDst (m ((c : Thread nD τ).loc main_arg2))) := by
  refine (ops1_acc (W2 m ρ c)).trans ?_
  rw [aug0 m ρ c, src0 m ρ c, dst0 m ρ c, at2_v1 m ρ c, at2_v3 m ρ c]

/-! Layer 2: what its launch reads and writes, and what the edge pass makes of it. -/

theorem in1_w : V3 m ρ c main_v56 = transpose S128x128 [1, 0] (m ((c : Thread nD τ).loc main_arg7)) transposes_S128x128_S128x128_1_0 :=
  (ops1_w (W2 m ρ c)).trans (congrArg (fun t => transpose S128x128 [1, 0] t transposes_S128x128_S128x128_1_0) (W2_args m ρ c main_arg7 (by simp [argRefs])))
theorem in1_b : V3 m ρ c main_v68 = shapeCast S1x128 (m ((c : Thread nD τ).loc main_arg8)) shapeCasts_S128_S1x128 :=
  (ops1_b (W2 m ρ c)).trans (congrArg (fun t => shapeCast S1x128 t shapeCasts_S128_S1x128) (W2_args m ρ c main_arg8 (by simp [argRefs])))
theorem in1_a : V3 m ρ c main_v63 = kA (m ((c : Thread nD τ).loc main_arg9)) :=
  (ops1_a (W2 m ρ c)).trans (congrArg kA (W2_args m ρ c main_arg9 (by simp [argRefs])))
theorem in1_ab : V3 m ρ c main_v67 = kB (m ((c : Thread nD τ).loc main_arg10)) :=
  (ops1_ab (W2 m ρ c)).trans (congrArg kB (W2_args m ρ c main_arg10 (by simp [argRefs])))

theorem feat1 : Z1 (V3 m ρ) c = Z (relu (combine (W3 m ρ c (Proc.devRef .tc main_v55)))) (transpose S128x128 [1, 0] (m ((c : Thread nD τ).loc main_arg7)) transposes_S128x128_S128x128_1_0) (shapeCast S1x128 (m ((c : Thread nD τ).loc main_arg8)) shapeCasts_S128_S1x128) := by
  unfold Z1
  rw [in1_w m ρ c, in1_b m ρ c]

theorem aug1 : W4 m ρ c (Proc.devRef .tc main_v69_0) = aug (Z1 (V3 m ρ) c) :=
  (W4_arr m ρ c 5).trans (final1_5 (V3 m ρ) c)
theorem src1 : W4 m ρ c (Proc.devRef .tc main_v69_1) = proj 0 (Z1 (V3 m ρ) c) (kA (m ((c : Thread nD τ).loc main_arg9))) (kB (m ((c : Thread nD τ).loc main_arg10))) := by
  refine ((W4_arr m ρ c 6).trans (final1_6 (V3 m ρ) c)).trans ?_
  rw [in1_a m ρ c, in1_ab m ρ c]
theorem dst1 : W4 m ρ c (Proc.devRef .tc main_v69_2) = proj 1 (Z1 (V3 m ρ) c) (kA (m ((c : Thread nD τ).loc main_arg9))) (kB (m ((c : Thread nD τ).loc main_arg10))) := by
  refine ((W4_arr m ρ c 7).trans (final1_7 (V3 m ρ) c)).trans ?_
  rw [in1_a m ρ c, in1_ab m ρ c]

theorem acc1 : W5 m ρ c (Proc.devRef .tc main_v107) = kAcc (aug (Z1 (V3 m ρ) c))
    (kW (kE (proj 0 (Z1 (V3 m ρ) c) (kA (m ((c : Thread nD τ).loc main_arg9))) (kB (m ((c : Thread nD τ).loc main_arg10))))
      (proj 1 (Z1 (V3 m ρ) c) (kA (m ((c : Thread nD τ).loc main_arg9))) (kB (m ((c : Thread nD τ).loc main_arg10))))
      (kSrc (m ((c : Thread nD τ).loc main_arg2))) (kDst (m ((c : Thread nD τ).loc main_arg2)))))
    (kSrc (m ((c : Thread nD τ).loc main_arg2))) (kDst (m ((c : Thread nD τ).loc main_arg2))) := by
  refine (ops2_acc (W4 m ρ c)).trans ?_
  rw [aug1 m ρ c, src1 m ρ c, dst1 m ρ c, at4_v1 m ρ c, at4_v3 m ρ c]

/-! Layer 3: what its launch reads and writes, and what the edge pass makes of it. -/

theorem in2_w : V5 m ρ c main_v108 = transpose S128x128 [1, 0] (m ((c : Thread nD τ).loc main_arg11)) transposes_S128x128_S128x128_1_0 :=
  (ops2_w (W4 m ρ c)).trans (congrArg (fun t => transpose S128x128 [1, 0] t transposes_S128x128_S128x128_1_0) (W4_args m ρ c main_arg11 (by simp [argRefs])))
theorem in2_b : V5 m ρ c main_v120 = shapeCast S1x128 (m ((c : Thread nD τ).loc main_arg12)) shapeCasts_S128_S1x128 :=
  (ops2_b (W4 m ρ c)).trans (congrArg (fun t => shapeCast S1x128 t shapeCasts_S128_S1x128) (W4_args m ρ c main_arg12 (by simp [argRefs])))
theorem in2_a : V5 m ρ c main_v115 = kA (m ((c : Thread nD τ).loc main_arg13)) :=
  (ops2_a (W4 m ρ c)).trans (congrArg kA (W4_args m ρ c main_arg13 (by simp [argRefs])))
theorem in2_ab : V5 m ρ c main_v119 = kB (m ((c : Thread nD τ).loc main_arg14)) :=
  (ops2_ab (W4 m ρ c)).trans (congrArg kB (W4_args m ρ c main_arg14 (by simp [argRefs])))

theorem feat2 : Z2 (V5 m ρ) c = Z (relu (combine (W5 m ρ c (Proc.devRef .tc main_v107)))) (transpose S128x128 [1, 0] (m ((c : Thread nD τ).loc main_arg11)) transposes_S128x128_S128x128_1_0) (shapeCast S1x128 (m ((c : Thread nD τ).loc main_arg12)) shapeCasts_S128_S1x128) := by
  unfold Z2
  rw [in2_w m ρ c, in2_b m ρ c]

theorem aug2 : W6 m ρ c (Proc.devRef .tc main_v121_0) = aug (Z2 (V5 m ρ) c) :=
  (W6_arr m ρ c 5).trans (final2_5 (V5 m ρ) c)
theorem src2 : W6 m ρ c (Proc.devRef .tc main_v121_1) = proj 0 (Z2 (V5 m ρ) c) (kA (m ((c : Thread nD τ).loc main_arg13))) (kB (m ((c : Thread nD τ).loc main_arg14))) := by
  refine ((W6_arr m ρ c 6).trans (final2_6 (V5 m ρ) c)).trans ?_
  rw [in2_a m ρ c, in2_ab m ρ c]
theorem dst2 : W6 m ρ c (Proc.devRef .tc main_v121_2) = proj 1 (Z2 (V5 m ρ) c) (kA (m ((c : Thread nD τ).loc main_arg13))) (kB (m ((c : Thread nD τ).loc main_arg14))) := by
  refine ((W6_arr m ρ c 7).trans (final2_7 (V5 m ρ) c)).trans ?_
  rw [in2_a m ρ c, in2_ab m ρ c]

theorem acc2 : W7 m ρ c (Proc.devRef .tc main_v159) = kAcc (aug (Z2 (V5 m ρ) c))
    (kW (kE (proj 0 (Z2 (V5 m ρ) c) (kA (m ((c : Thread nD τ).loc main_arg13))) (kB (m ((c : Thread nD τ).loc main_arg14))))
      (proj 1 (Z2 (V5 m ρ) c) (kA (m ((c : Thread nD τ).loc main_arg13))) (kB (m ((c : Thread nD τ).loc main_arg14))))
      (kSrc (m ((c : Thread nD τ).loc main_arg2))) (kDst (m ((c : Thread nD τ).loc main_arg2)))))
    (kSrc (m ((c : Thread nD τ).loc main_arg2))) (kDst (m ((c : Thread nD τ).loc main_arg2))) := by
  refine (ops3_acc (W6 m ρ c)).trans ?_
  rw [aug2 m ρ c, src2 m ρ c, dst2 m ρ c, at6_v1 m ρ c, at6_v3 m ρ c]

/-- The argument arrays hold the real parameters. -/
structure Holds (m : (ℓ : Loc nD τ sig) → Buf (Elt Ideal) ℓ) (c : Dev nD) (p : Params) : Prop where
  hx : ∀ n j, m ((c : Thread nD τ).loc main_arg1) (ix2 n j) = (p.x n j : EReal)
  hw1 : ∀ j i, m ((c : Thread nD τ).loc main_arg3) (ix2 j i) = (p.w1 j i : EReal)
  hb1 : ∀ j, m ((c : Thread nD τ).loc main_arg4) (ix1 j) = (p.b1 j : EReal)
  ha1 : ∀ i, m ((c : Thread nD τ).loc main_arg5) (ix2 (0 : Fin 1) i) = (p.a1 i : EReal)
  hc1 : m ((c : Thread nD τ).loc main_arg6) (ix1 (0 : Fin 1)) = (p.c1 : EReal)
  hw2 : ∀ j i, m ((c : Thread nD τ).loc main_arg7) (ix2 j i) = (p.w2 j i : EReal)
  hb2 : ∀ j, m ((c : Thread nD τ).loc main_arg8) (ix1 j) = (p.b2 j : EReal)
  ha2 : ∀ i, m ((c : Thread nD τ).loc main_arg9) (ix2 (0 : Fin 1) i) = (p.a2 i : EReal)
  hc2 : m ((c : Thread nD τ).loc main_arg10) (ix1 (0 : Fin 1)) = (p.c2 : EReal)
  hw3 : ∀ j i, m ((c : Thread nD τ).loc main_arg11) (ix2 j i) = (p.w3 j i : EReal)
  hb3 : ∀ j, m ((c : Thread nD τ).loc main_arg12) (ix1 j) = (p.b3 j : EReal)
  ha3 : ∀ i, m ((c : Thread nD τ).loc main_arg13) (ix2 (0 : Fin 1) i) = (p.a3 i : EReal)
  hc3 : m ((c : Thread nD τ).loc main_arg14) (ix1 (0 : Fin 1)) = (p.c3 : EReal)

variable {m c} {p : Params} (h : Holds m c p)

include h in
theorem feat0_real (n : Fin 10000) (j : Fin 128) : Z0 (V1 m ρ) c (ix2 n j) = (z1 p n j : EReal) := by
  rw [feat0]; exact Z_real _ _ _ p.x p.w1 p.b1 h.hx h.hw1 h.hb1 n j

include h in
theorem mid1_real (n : Fin 10000) (j : Fin 128) : relu (combine (W3 m ρ c (Proc.devRef .tc main_v55))) (ix2 n j) = (h1r (kSrc (m ((c : Thread nD τ).loc main_arg2))) (kDst (m ((c : Thread nD τ).loc main_arg2))) p n j : EReal) :=
  relu_real _ _ (fun n j => by rw [acc0]; exact ker_layer (feat0_real ρ h) h.ha1 h.hc1 n j) n j

include h in
theorem feat1_real (n : Fin 10000) (j : Fin 128) : Z1 (V3 m ρ) c (ix2 n j) = (z2 (kSrc (m ((c : Thread nD τ).loc main_arg2))) (kDst (m ((c : Thread nD τ).loc main_arg2))) p n j : EReal) := by
  rw [feat1]; exact Z_real _ _ _ _ p.w2 p.b2 (mid1_real ρ h) h.hw2 h.hb2 n j

include h in
theorem mid2_real (n : Fin 10000) (j : Fin 128) : relu (combine (W5 m ρ c (Proc.devRef .tc main_v107))) (ix2 n j) = (h2r (kSrc (m ((c : Thread nD τ).loc main_arg2))) (kDst (m ((c : Thread nD τ).loc main_arg2))) p n j : EReal) :=
  relu_real _ _ (fun n j => by rw [acc1]; exact ker_layer (feat1_real ρ h) h.ha2 h.hc2 n j) n j

include h in
theorem feat2_real (n : Fin 10000) (j : Fin 128) : Z2 (V5 m ρ) c (ix2 n j) = (z3 (kSrc (m ((c : Thread nD τ).loc main_arg2))) (kDst (m ((c : Thread nD τ).loc main_arg2))) p n j : EReal) := by
  rw [feat2]; exact Z_real _ _ _ _ p.w3 p.b3 (mid2_real ρ h) h.hw3 h.hb3 n j

include h in
/-- The kernel's result over real arguments. -/
theorem result_real (n : Fin 10000) (j : Fin 128) : W8 m ρ c (Proc.devRef .tc main_v160) (ix2 n j) = (net (kSrc (m ((c : Thread nD τ).loc main_arg2))) (kDst (m ((c : Thread nD τ).loc main_arg2))) p n j : EReal) := by
  have e : W8 m ρ c (Proc.devRef .tc main_v160) = combine (W7 m ρ c (Proc.devRef .tc main_v159)) :=
    (W8_arr m ρ c 1).trans (final3_1 (V7 m ρ) c)
  rw [e, acc2]
  exact ker_layer (feat2_real ρ h) h.ha3 h.hc3 n j

end Cert.KernelIdeal.Edges

end
-- ==== Proof.RefValue.lean ====
/- The reference's result: three layers in a row, each entry a real. -/
module

public import proofs.«01_k».proof.Proof.Gen.ReferenceIdeal.Run
public import proofs.«01_k».proof.Proof.RefLayer
public import proofs.«01_k».proof.Proof.Net

@[expose] public section

set_option maxRecDepth 16384

noncomputable section

namespace Cert.Proof

open Idealize.ShloMosaic Idealize.SL.Sem
open Cert.ReferenceIdeal Cert.ReferenceIdeal.Gen Cert.ReferenceIdeal.Value

variable (V : Valuation τ sig (Elt Ideal))

/-- The positive part, as the reference takes it. -/
def rRelu (h : FVec Ideal S10000x128 .f32) : FVec Ideal S10000x128 .f32 :=
  maximumf h (broadcastInDim S10000x128 ![] bcast_S_S10000x128 (constant S_ .f32 0x00000000#32))

theorem rRelu_real (h : FVec Ideal S10000x128 .f32) (r : Fin 10000 → Fin 128 → ℝ) (hh : ∀ n j, h (ix2 n j) = (r n j : EReal)) (n : Fin 10000) (j : Fin 128) :
    rRelu h (ix2 n j) = (max (r n j) 0 : ℝ) := by
  have : rRelu h (ix2 n j) = max (h (ix2 n j) : EReal) 0 := by pointwise [rRelu]
  rw [this, hh, ← EReal.coe_zero, max_coe]

theorem z1_eq : res_main_v8 V = rZ (V (Proc.devRef .tc main_arg1)) (V (Proc.devRef .tc main_arg3)) (V (Proc.devRef .tc main_arg4)) := rfl

theorem l1_eq : res_main_v30 V = rL (rE (res_main_v8 V) (V (Proc.devRef .tc main_arg5)) (V (Proc.devRef .tc main_arg6)) (res_main_v1 V) (res_main_v3 V)) := rfl

theorem ex1_eq : res_main_v48 V = rEx (res_main_v30 V) (res_main_v3 V) := rfl

theorem z2_eq : res_main_v78 V = rZ (rRelu (rOut (res_main_v8 V) (res_main_v48 V) (res_main_v1 V) (res_main_v3 V))) (V (Proc.devRef .tc main_arg7)) (V (Proc.devRef .tc main_arg8)) := rfl

theorem l2_eq : res_main_v100 V = rL (rE (res_main_v78 V) (V (Proc.devRef .tc main_arg9)) (V (Proc.devRef .tc main_arg10)) (res_main_v1 V) (res_main_v3 V)) := rfl

theorem ex2_eq : res_main_v118 V = rEx (res_main_v100 V) (res_main_v3 V) := rfl

theorem z3_eq : res_main_v148 V = rZ (rRelu (rOut (res_main_v78 V) (res_main_v118 V) (res_main_v1 V) (res_main_v3 V))) (V (Proc.devRef .tc main_arg11)) (V (Proc.devRef .tc main_arg12)) := rfl

theorem l3_eq : res_main_v170 V = rL (rE (res_main_v148 V) (V (Proc.devRef .tc main_arg13)) (V (Proc.devRef .tc main_arg14)) (res_main_v1 V) (res_main_v3 V)) := rfl

theorem ex3_eq : res_main_v188 V = rEx (res_main_v170 V) (res_main_v3 V) := rfl

/-- The reference's result, from its arguments. -/
def refOut : FVec Ideal S10000x128 .f32 := rOut (res_main_v148 V) (res_main_v188 V) (res_main_v1 V) (res_main_v3 V)

/-- The reference's result over real arguments. -/
theorem refOut_real (p : Params)
    (hx : ∀ n j, V (Proc.devRef .tc main_arg1) (ix2 n j) = (p.x n j : EReal))
    (hw1 : ∀ j i, V (Proc.devRef .tc main_arg3) (ix2 j i) = (p.w1 j i : EReal)) (hb1 : ∀ j, V (Proc.devRef .tc main_arg4) (ix1 j) = (p.b1 j : EReal))
    (ha1 : ∀ i, V (Proc.devRef .tc main_arg5) (ix2 (0 : Fin 1) i) = (p.a1 i : EReal)) (hc1 : V (Proc.devRef .tc main_arg6) (ix1 (0 : Fin 1)) = (p.c1 : EReal))
    (hw2 : ∀ j i, V (Proc.devRef .tc main_arg7) (ix2 j i) = (p.w2 j i : EReal)) (hb2 : ∀ j, V (Proc.devRef .tc main_arg8) (ix1 j) = (p.b2 j : EReal))
    (ha2 : ∀ i, V (Proc.devRef .tc main_arg9) (ix2 (0 : Fin 1) i) = (p.a2 i : EReal)) (hc2 : V (Proc.devRef .tc main_arg10) (ix1 (0 : Fin 1)) = (p.c2 : EReal))
    (hw3 : ∀ j i, V (Proc.devRef .tc main_arg11) (ix2 j i) = (p.w3 j i : EReal)) (hb3 : ∀ j, V (Proc.devRef .tc main_arg12) (ix1 j) = (p.b3 j : EReal))
    (ha3 : ∀ i, V (Proc.devRef .tc main_arg13) (ix2 (0 : Fin 1) i) = (p.a3 i : EReal)) (hc3 : V (Proc.devRef .tc main_arg14) (ix1 (0 : Fin 1)) = (p.c3 : EReal))
    (n : Fin 10000) (j : Fin 128) : refOut V (ix2 n j) = (net (res_main_v1 V) (res_main_v3 V) p n j : EReal) := by
  have h1 : ∀ n j, res_main_v8 V (ix2 n j) = (z1 p n j : EReal) := fun n j => by
    rw [z1_eq]; exact rZ_real _ _ _ p.x p.w1 p.b1 hx hw1 hb1 n j
  have o1 : ∀ n j, rRelu (rOut (res_main_v8 V) (res_main_v48 V) (res_main_v1 V) (res_main_v3 V)) (ix2 n j) = (h1r (res_main_v1 V) (res_main_v3 V) p n j : EReal) :=
    fun n j => rRelu_real _ _ (fun n j => by rw [ex1_eq, l1_eq]; exact ref_layer h1 ha1 hc1 n j) n j
  have h2 : ∀ n j, res_main_v78 V (ix2 n j) = (z2 (res_main_v1 V) (res_main_v3 V) p n j : EReal) := fun n j => by
    rw [z2_eq]; exact rZ_real _ _ _ _ p.w2 p.b2 o1 hw2 hb2 n j
  have o2 : ∀ n j, rRelu (rOut (res_main_v78 V) (res_main_v118 V) (res_main_v1 V) (res_main_v3 V)) (ix2 n j) = (h2r (res_main_v1 V) (res_main_v3 V) p n j : EReal) :=
    fun n j => rRelu_real _ _ (fun n j => by rw [ex2_eq, l2_eq]; exact ref_layer h2 ha2 hc2 n j) n j
  have h3 : ∀ n j, res_main_v148 V (ix2 n j) = (z3 (res_main_v1 V) (res_main_v3 V) p n j : EReal) := fun n j => by
    rw [z3_eq]; exact rZ_real _ _ _ _ p.w3 p.b3 o2 hw3 hb3 n j
  unfold refOut
  rw [ex3_eq, l3_eq]
  exact ref_layer h3 ha3 hc3 n j

end Cert.Proof

end
-- ==== Proof.Finite.lean ====
/- What the precondition says: every float argument is a real number at every index. -/
module

public import proofs.«01_k».proof.Pre_finite
public import proofs.«01_k».proof.Proof.Gen.Pre_finite
public import Idealize.ShloMosaic.Lib.ReduceAll
public import Idealize.ShloMosaic.PureOps.Ideal.Laws

@[expose] public section

noncomputable section

namespace Cert.Proof.Fin

open Idealize.ShloMosaic
open Cert.Pre_finite.Gen

/-- A value whose magnitude is below infinity is a real. -/
theorem real_of_abs (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  induction x with
  | bot => exfalso; revert h; simp [Ideal.cmp]
  | top => exfalso; revert h; simp [Ideal.cmp]
  | coe r => rfl

/-- Two bits whose conjunction is one. -/
theorem both {x y : BitVec 1} (h : IntOp.andi x y = 1#1) : x = 1#1 ∧ y = 1#1 := by
  revert x y; decide

/-- One array's test: it passes only where every element is real. -/
theorem array_real {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (k : (⟨0, ![]⟩ : Shape).Idx)
    (h : Host.reduce IntOp.andi (cmpf .olt (Host.absf x) (broadcastInDim s ![] hb (constant ⟨0, ![]⟩ .f32 0x7F800000#32))) (constantI ⟨0, ![]⟩ 1 1#1) hr hu k = 1#1)
    (i : s.Idx) : x i = (((x i : EReal).toReal : ℝ) : EReal) := by
  haveI : Subsingleton (⟨0, ![]⟩ : Shape).Idx := ⟨fun a b => funext fun k => k.elim0⟩
  exact real_of_abs _ (Host.reduce_andi_all _ _ hr hu _ h i)

open Cert.Pre_finite

/-- The precondition, argument by argument. -/
theorem all_real (x0 : IVec S_ 32) (x2 : IVec S2x320000 32) (x1 : FVec Ideal S10000x128 .f32) (x3 : FVec Ideal S128x128 .f32) (x4 : FVec Ideal S128 .f32) (x5 : FVec Ideal S1x256 .f32) (x6 : FVec Ideal S1 .f32) (x7 : FVec Ideal S128x128 .f32) (x8 : FVec Ideal S128 .f32) (x9 : FVec Ideal S1x256 .f32) (x10 : FVec Ideal S1 .f32) (x11 : FVec Ideal S128x128 .f32) (x12 : FVec Ideal S128 .f32) (x13 : FVec Ideal S1x256 .f32) (x14 : FVec Ideal S1 .f32)
    (h : fn x0 x1 x2 x3 x4 x5 x6 x7 x8 x9 x10 x11 x12 x13 x14 = fun _ => 1#1) :
    (∀ i, x1 i = (((x1 i : EReal).toReal : ℝ) : EReal))
    ∧ (∀ i, x3 i = (((x3 i : EReal).toReal : ℝ) : EReal))
    ∧ (∀ i, x4 i = (((x4 i : EReal).toReal : ℝ) : EReal))
    ∧ (∀ i, x5 i = (((x5 i : EReal).toReal : ℝ) : EReal))
    ∧ (∀ i, x6 i = (((x6 i : EReal).toReal : ℝ) : EReal))
    ∧ (∀ i, x7 i = (((x7 i : EReal).toReal : ℝ) : EReal))
    ∧ (∀ i, x8 i = (((x8 i : EReal).toReal : ℝ) : EReal))
    ∧ (∀ i, x9 i = (((x9 i : EReal).toReal : ℝ) : EReal))
    ∧ (∀ i, x10 i = (((x10 i : EReal).toReal : ℝ) : EReal))
    ∧ (∀ i, x11 i = (((x11 i : EReal).toReal : ℝ) : EReal))
    ∧ (∀ i, x12 i = (((x12 i : EReal).toReal : ℝ) : EReal))
    ∧ (∀ i, x13 i = (((x13 i : EReal).toReal : ℝ) : EReal))
    ∧ (∀ i, x14 i = (((x14 i : EReal).toReal : ℝ) : EReal)) := by
  have h0 := congrFun h (fun k => k.elim0)
  obtain ⟨h1, r12⟩ := both h0
  obtain ⟨h2, r11⟩ := both h1
  obtain ⟨h3, r10⟩ := both h2
  obtain ⟨h4, r9⟩ := both h3
  obtain ⟨h5, r8⟩ := both h4
  obtain ⟨h6, r7⟩ := both h5
  obtain ⟨h7, r6⟩ := both h6
  obtain ⟨h8, r5⟩ := both h7
  obtain ⟨h9, r4⟩ := both h8
  obtain ⟨h10, r3⟩ := both h9
  obtain ⟨h11, r2⟩ := both h10
  obtain ⟨h12, r1⟩ := both h11
  exact ⟨array_real x1 _ _ _ _ h12,
    array_real x3 _ _ _ _ r1,
    array_real x4 _ _ _ _ r2,
    array_real x5 _ _ _ _ r3,
    array_real x6 _ _ _ _ r4,
    array_real x7 _ _ _ _ r5,
    array_real x8 _ _ _ _ r6,
    array_real x9 _ _ _ _ r7,
    array_real x10 _ _ _ _ r8,
    array_real x11 _ _ _ _ r9,
    array_real x12 _ _ _ _ r10,
    array_real x13 _ _ _ _ r11,
    array_real x14 _ _ _ _ r12⟩

end Cert.Proof.Fin

end
-- ==== Proof.Algebraic.lean ====
/- The two programs agree: over real arguments both leave the network's result. -/
module

public import proofs.«01_k».proof.Defs
public import proofs.«01_k».proof.Proof.KerRun
public import proofs.«01_k».proof.Proof.KerValue
public import proofs.«01_k».proof.Proof.RefValue
public import proofs.«01_k».proof.Proof.Finite
public import proofs.«01_k».proof.Proof.Gen.ReferenceIdeal.Run

@[expose] public section

set_option maxRecDepth 16384

noncomputable section

namespace Cert.Proof

open Idealize.ShloMosaic Idealize.SL.Sem

/-- The real numbers the kernel's float arguments hold. -/
def params (m : (ℓ : Loc Cert.KernelIdeal.nD Cert.KernelIdeal.τ Cert.KernelIdeal.sig) → Buf (Elt Ideal) ℓ) (c : Dev Cert.KernelIdeal.nD) : Params where
  x := fun n j => (m ((c.tc : Thread Cert.KernelIdeal.nD Cert.KernelIdeal.τ).loc Cert.KernelIdeal.main_arg1) (ix2 n j) : EReal).toReal
  w1 := fun j i => (m ((c.tc : Thread Cert.KernelIdeal.nD Cert.KernelIdeal.τ).loc Cert.KernelIdeal.main_arg3) (ix2 j i) : EReal).toReal
  b1 := fun j => (m ((c.tc : Thread Cert.KernelIdeal.nD Cert.KernelIdeal.τ).loc Cert.KernelIdeal.main_arg4) (ix1 j) : EReal).toReal
  a1 := fun i => (m ((c.tc : Thread Cert.KernelIdeal.nD Cert.KernelIdeal.τ).loc Cert.KernelIdeal.main_arg5) (ix2 (0 : Fin 1) i) : EReal).toReal
  c1 := (m ((c.tc : Thread Cert.KernelIdeal.nD Cert.KernelIdeal.τ).loc Cert.KernelIdeal.main_arg6) (ix1 (0 : Fin 1)) : EReal).toReal
  w2 := fun j i => (m ((c.tc : Thread Cert.KernelIdeal.nD Cert.KernelIdeal.τ).loc Cert.KernelIdeal.main_arg7) (ix2 j i) : EReal).toReal
  b2 := fun j => (m ((c.tc : Thread Cert.KernelIdeal.nD Cert.KernelIdeal.τ).loc Cert.KernelIdeal.main_arg8) (ix1 j) : EReal).toReal
  a2 := fun i => (m ((c.tc : Thread Cert.KernelIdeal.nD Cert.KernelIdeal.τ).loc Cert.KernelIdeal.main_arg9) (ix2 (0 : Fin 1) i) : EReal).toReal
  c2 := (m ((c.tc : Thread Cert.KernelIdeal.nD Cert.KernelIdeal.τ).loc Cert.KernelIdeal.main_arg10) (ix1 (0 : Fin 1)) : EReal).toReal
  w3 := fun j i => (m ((c.tc : Thread Cert.KernelIdeal.nD Cert.KernelIdeal.τ).loc Cert.KernelIdeal.main_arg11) (ix2 j i) : EReal).toReal
  b3 := fun j => (m ((c.tc : Thread Cert.KernelIdeal.nD Cert.KernelIdeal.τ).loc Cert.KernelIdeal.main_arg12) (ix1 j) : EReal).toReal
  a3 := fun i => (m ((c.tc : Thread Cert.KernelIdeal.nD Cert.KernelIdeal.τ).loc Cert.KernelIdeal.main_arg13) (ix2 (0 : Fin 1) i) : EReal).toReal
  c3 := (m ((c.tc : Thread Cert.KernelIdeal.nD Cert.KernelIdeal.τ).loc Cert.KernelIdeal.main_arg14) (ix1 (0 : Fin 1)) : EReal).toReal

/-- Under the precondition the arguments hold them. -/
theorem holds (m : (ℓ : Loc Cert.KernelIdeal.nD Cert.KernelIdeal.τ Cert.KernelIdeal.sig) → Buf (Elt Ideal) ℓ) (hpre : Cert.Pre_KernelIdeal_finite m)
    (c : Dev Cert.KernelIdeal.nD) : Cert.KernelIdeal.Edges.Holds m c (params m c) :=
  have h := Fin.all_real _ _ _ _ _ _ _ _ _ _ _ _ _ _ _ (hpre c)
  {
    hx := fun n j => h.1 (ix2 n j),
    hw1 := fun j i => h.2.1 (ix2 j i),
    hb1 := fun j => h.2.2.1 (ix1 j),
    ha1 := fun i => h.2.2.2.1 (ix2 (0 : Fin 1) i),
    hc1 := h.2.2.2.2.1 (ix1 (0 : Fin 1)),
    hw2 := fun j i => h.2.2.2.2.2.1 (ix2 j i),
    hb2 := fun j => h.2.2.2.2.2.2.1 (ix1 j),
    ha2 := fun i => h.2.2.2.2.2.2.2.1 (ix2 (0 : Fin 1) i),
    hc2 := h.2.2.2.2.2.2.2.2.1 (ix1 (0 : Fin 1)),
    hw3 := fun j i => h.2.2.2.2.2.2.2.2.2.1 (ix2 j i),
    hb3 := fun j => h.2.2.2.2.2.2.2.2.2.2.1 (ix1 j),
    ha3 := fun i => h.2.2.2.2.2.2.2.2.2.2.2.1 (ix2 (0 : Fin 1) i),
    hc3 := h.2.2.2.2.2.2.2.2.2.2.2.2 (ix1 (0 : Fin 1)) }

/-- From agreeing arguments the reference's result is the kernel's. -/
theorem same (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (hpre : Cert.Pre_KernelIdeal_finite m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))) (c : Dev Cert.KernelIdeal.nD) :
    refOut (StableHlo.launchContents m' c) = Cert.KernelIdeal.Gen.W8 m g c (Proc.devRef .tc Cert.KernelIdeal.main_v160) := by
  have hp := holds m hpre c
  have hs : Cert.ReferenceIdeal.Value.res_main_v1 (StableHlo.launchContents m' c)
      = Cert.KernelIdeal.Edges.kSrc (m ((c.tc : Thread Cert.KernelIdeal.nD Cert.KernelIdeal.τ).loc Cert.KernelIdeal.main_arg2)) := by
    rw [← (hagree c).2.2.1]; rfl
  have hd : Cert.ReferenceIdeal.Value.res_main_v3 (StableHlo.launchContents m' c)
      = Cert.KernelIdeal.Edges.kDst (m ((c.tc : Thread Cert.KernelIdeal.nD Cert.KernelIdeal.τ).loc Cert.KernelIdeal.main_arg2)) := by
    rw [← (hagree c).2.2.1]; rfl
  funext i
  rw [eq_ix2 i]
  refine (refOut_real (StableHlo.launchContents m' c) (params m c)
    (fun n j => (congrFun (hagree c).2.1 (ix2 n j)).trans (hp.hx n j))
    (fun j i => (congrFun (hagree c).2.2.2.1 (ix2 j i)).trans (hp.hw1 j i))
    (fun j => (congrFun (hagree c).2.2.2.2.1 (ix1 j)).trans (hp.hb1 j))
    (fun i => (congrFun (hagree c).2.2.2.2.2.1 (ix2 (0 : Fin 1) i)).trans (hp.ha1 i))
    ((congrFun (hagree c).2.2.2.2.2.2.1 (ix1 (0 : Fin 1))).trans hp.hc1)
    (fun j i => (congrFun (hagree c).2.2.2.2.2.2.2.1 (ix2 j i)).trans (hp.hw2 j i))
    (fun j => (congrFun (hagree c).2.2.2.2.2.2.2.2.1 (ix1 j)).trans (hp.hb2 j))
    (fun i => (congrFun (hagree c).2.2.2.2.2.2.2.2.2.1 (ix2 (0 : Fin 1) i)).trans (hp.ha2 i))
    ((congrFun (hagree c).2.2.2.2.2.2.2.2.2.2.1 (ix1 (0 : Fin 1))).trans hp.hc2)
    (fun j i => (congrFun (hagree c).2.2.2.2.2.2.2.2.2.2.2.1 (ix2 j i)).trans (hp.hw3 j i))
    (fun j => (congrFun (hagree c).2.2.2.2.2.2.2.2.2.2.2.2.1 (ix1 j)).trans (hp.hb3 j))
    (fun i => (congrFun (hagree c).2.2.2.2.2.2.2.2.2.2.2.2.2.1 (ix2 (0 : Fin 1) i)).trans (hp.ha3 i))
    ((congrFun (hagree c).2.2.2.2.2.2.2.2.2.2.2.2.2.2 (ix1 (0 : Fin 1))).trans hp.hc3) (i 0) (i 1)).trans ?_
  rw [hs, hd]
  exact (Cert.KernelIdeal.Edges.result_real g hp (i 0) (i 1)).symm

/-- Under the precondition the two programs leave the same result. -/
theorem algebraic : Cert.algebraic_KernelIdeal_ReferenceIdeal_pre_finite := fun m g m' g' hpre hagree =>
  ⟨fun c => Cert.KernelIdeal.Gen.W8 m g c (Proc.devRef .tc Cert.KernelIdeal.main_v160), Cert.KernelIdeal.Edges.kernelRun m g,
    (θ_run (Cert.ReferenceIdeal.defs (F := Ideal)) _ _).mono (fun r h c => ⟨(h c).1.trans (same m g m' hpre hagree c), (h c).2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  frame_kernel, frame_kernelIdeal, frame_kernelIdeal_pre, frame_referenceIdeal, frame_referenceIdeal_pre, preserves, algebraic⟩

end Cert.Proof

end
